-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Latents (m : (ℓ : Loc Cert.Latents.nD Cert.Latents.τ Cert.Latents.sig) → Buf (Elt Bits) ℓ) : Prop :=
  True

def Pre_LatentsIdeal (m : (ℓ : Loc Cert.LatentsIdeal.nD Cert.LatentsIdeal.τ Cert.LatentsIdeal.sig) → Buf (Elt Ideal) ℓ) : Prop :=
  True

def Pre_LatentsReferenceIdeal (m : (ℓ : Loc Cert.LatentsReferenceIdeal.nD Cert.LatentsReferenceIdeal.τ Cert.LatentsReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionReferenceIdeal (m : (ℓ : Loc Cert.AttentionReferenceIdeal.nD Cert.AttentionReferenceIdeal.τ Cert.AttentionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_Latents [hLatents : Cert.Latents.Facts] : Prop :=
  ∀ (m : (ℓ : Loc Cert.Latents.nD Cert.Latents.τ Cert.Latents.sig) → Buf (Elt Bits) ℓ) (g : Dev Cert.Latents.nD → PrngReg), Pre_Latents m →
    θ_run (Cert.Latents.defs (F := Bits)) (onTc (τ := Cert.Latents.τ) (Cert.Latents.main (F := Bits))) ⟨m, fun _ => 0, g⟩ (fun r => (∀ c : Dev Cert.Latents.nD,
      r.2.mem ((c.tc : Thread Cert.Latents.nD Cert.Latents.τ).loc Cert.Latents.main_arg0) = m ((c.tc : Thread Cert.Latents.nD Cert.Latents.τ).loc Cert.Latents.main_arg0)
      ∧ r.2.mem ((c.tc : Thread Cert.Latents.nD Cert.Latents.τ).loc Cert.Latents.main_arg1) = m ((c.tc : Thread Cert.Latents.nD Cert.Latents.τ).loc Cert.Latents.main_arg1)
      ∧ r.2.mem ((c.tc : Thread Cert.Latents.nD Cert.Latents.τ).loc Cert.Latents.main_arg2) = m ((c.tc : Thread Cert.Latents.nD Cert.Latents.τ).loc Cert.Latents.main_arg2)
      ∧ r.2.mem ((c.tc : Thread Cert.Latents.nD Cert.Latents.τ).loc Cert.Latents.main_arg3) = m ((c.tc : Thread Cert.Latents.nD Cert.Latents.τ).loc Cert.Latents.main_arg3)
      ∧ r.2.mem ((c.tc : Thread Cert.Latents.nD Cert.Latents.τ).loc Cert.Latents.main_arg4) = m ((c.tc : Thread Cert.Latents.nD Cert.Latents.τ).loc Cert.Latents.main_arg4))
      ∧ r.2.sem = fun _ => 0)

def quiescent_LatentsIdeal [hLatentsIdeal : Cert.LatentsIdeal.Facts] : Prop :=
  ∀ (m : (ℓ : Loc Cert.LatentsIdeal.nD Cert.LatentsIdeal.τ Cert.LatentsIdeal.sig) → Buf (Elt Ideal) ℓ) (g : Dev Cert.LatentsIdeal.nD → PrngReg), Pre_LatentsIdeal m →
    θ_run (Cert.LatentsIdeal.defs (F := Ideal)) (onTc (τ := Cert.LatentsIdeal.τ) (Cert.LatentsIdeal.main (F := Ideal))) ⟨m, fun _ => 0, g⟩ (fun r => (∀ c : Dev Cert.LatentsIdeal.nD,
      r.2.mem ((c.tc : Thread Cert.LatentsIdeal.nD Cert.LatentsIdeal.τ).loc Cert.LatentsIdeal.main_arg0) = m ((c.tc : Thread Cert.LatentsIdeal.nD Cert.LatentsIdeal.τ).loc Cert.LatentsIdeal.main_arg0)
      ∧ r.2.mem ((c.tc : Thread Cert.LatentsIdeal.nD Cert.LatentsIdeal.τ).loc Cert.LatentsIdeal.main_arg1) = m ((c.tc : Thread Cert.LatentsIdeal.nD Cert.LatentsIdeal.τ).loc Cert.LatentsIdeal.main_arg1)
      ∧ r.2.mem ((c.tc : Thread Cert.LatentsIdeal.nD Cert.LatentsIdeal.τ).loc Cert.LatentsIdeal.main_arg2) = m ((c.tc : Thread Cert.LatentsIdeal.nD Cert.LatentsIdeal.τ).loc Cert.LatentsIdeal.main_arg2)
      ∧ r.2.mem ((c.tc : Thread Cert.LatentsIdeal.nD Cert.LatentsIdeal.τ).loc Cert.LatentsIdeal.main_arg3) = m ((c.tc : Thread Cert.LatentsIdeal.nD Cert.LatentsIdeal.τ).loc Cert.LatentsIdeal.main_arg3)
      ∧ r.2.mem ((c.tc : Thread Cert.LatentsIdeal.nD Cert.LatentsIdeal.τ).loc Cert.LatentsIdeal.main_arg4) = m ((c.tc : Thread Cert.LatentsIdeal.nD Cert.LatentsIdeal.τ).loc Cert.LatentsIdeal.main_arg4))
      ∧ r.2.sem = fun _ => 0)

def quiescent_LatentsReferenceIdeal [hLatentsReferenceIdeal : Cert.LatentsReferenceIdeal.Facts] : Prop :=
  ∀ (m : (ℓ : Loc Cert.LatentsReferenceIdeal.nD Cert.LatentsReferenceIdeal.τ Cert.LatentsReferenceIdeal.sig) → Buf (Elt Ideal) ℓ) (g : Dev Cert.LatentsReferenceIdeal.nD → PrngReg), Pre_LatentsReferenceIdeal m →
    θ_run (Cert.LatentsReferenceIdeal.defs (F := Ideal)) (onTc (τ := Cert.LatentsReferenceIdeal.τ) (Cert.LatentsReferenceIdeal.main (F := Ideal))) ⟨m, fun _ => 0, g⟩ (fun r => (∀ c : Dev Cert.LatentsReferenceIdeal.nD,
      r.2.mem ((c.tc : Thread Cert.LatentsReferenceIdeal.nD Cert.LatentsReferenceIdeal.τ).loc Cert.LatentsReferenceIdeal.main_arg0) = m ((c.tc : Thread Cert.LatentsReferenceIdeal.nD Cert.LatentsReferenceIdeal.τ).loc Cert.LatentsReferenceIdeal.main_arg0)
      ∧ r.2.mem ((c.tc : Thread Cert.LatentsReferenceIdeal.nD Cert.LatentsReferenceIdeal.τ).loc Cert.LatentsReferenceIdeal.main_arg1) = m ((c.tc : Thread Cert.LatentsReferenceIdeal.nD Cert.LatentsReferenceIdeal.τ).loc Cert.LatentsReferenceIdeal.main_arg1)
      ∧ r.2.mem ((c.tc : Thread Cert.LatentsReferenceIdeal.nD Cert.LatentsReferenceIdeal.τ).loc Cert.LatentsReferenceIdeal.main_arg2) = m ((c.tc : Thread Cert.LatentsReferenceIdeal.nD Cert.LatentsReferenceIdeal.τ).loc Cert.LatentsReferenceIdeal.main_arg2)
      ∧ r.2.mem ((c.tc : Thread Cert.LatentsReferenceIdeal.nD Cert.LatentsReferenceIdeal.τ).loc Cert.LatentsReferenceIdeal.main_arg3) = m ((c.tc : Thread Cert.LatentsReferenceIdeal.nD Cert.LatentsReferenceIdeal.τ).loc Cert.LatentsReferenceIdeal.main_arg3)
      ∧ r.2.mem ((c.tc : Thread Cert.LatentsReferenceIdeal.nD Cert.LatentsReferenceIdeal.τ).loc Cert.LatentsReferenceIdeal.main_arg4) = m ((c.tc : Thread Cert.LatentsReferenceIdeal.nD Cert.LatentsReferenceIdeal.τ).loc Cert.LatentsReferenceIdeal.main_arg4))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v54) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_Latents_LatentsIdeal : Prop :=
  True

def algebraic_LatentsIdeal_LatentsReferenceIdeal [hLatentsIdeal : Cert.LatentsIdeal.Facts] [hLatentsReferenceIdeal : Cert.LatentsReferenceIdeal.Facts] : Prop :=
  ∀ (m : (ℓ : Loc Cert.LatentsIdeal.nD Cert.LatentsIdeal.τ Cert.LatentsIdeal.sig) → Buf (Elt Ideal) ℓ) (g : Dev Cert.LatentsIdeal.nD → PrngReg)
    (m' : (ℓ : Loc Cert.LatentsReferenceIdeal.nD Cert.LatentsReferenceIdeal.τ Cert.LatentsReferenceIdeal.sig) → Buf (Elt Ideal) ℓ) (g' : Dev Cert.LatentsReferenceIdeal.nD → PrngReg), Pre_LatentsIdeal m →
    (∀ c : Dev Cert.LatentsIdeal.nD,
      m' ((c.tc : Thread Cert.LatentsReferenceIdeal.nD Cert.LatentsReferenceIdeal.τ).loc Cert.LatentsReferenceIdeal.main_arg0) = m ((c.tc : Thread Cert.LatentsIdeal.nD Cert.LatentsIdeal.τ).loc Cert.LatentsIdeal.main_arg0)
      ∧ m' ((c.tc : Thread Cert.LatentsReferenceIdeal.nD Cert.LatentsReferenceIdeal.τ).loc Cert.LatentsReferenceIdeal.main_arg1) = m ((c.tc : Thread Cert.LatentsIdeal.nD Cert.LatentsIdeal.τ).loc Cert.LatentsIdeal.main_arg1)
      ∧ m' ((c.tc : Thread Cert.LatentsReferenceIdeal.nD Cert.LatentsReferenceIdeal.τ).loc Cert.LatentsReferenceIdeal.main_arg2) = m ((c.tc : Thread Cert.LatentsIdeal.nD Cert.LatentsIdeal.τ).loc Cert.LatentsIdeal.main_arg2)
      ∧ m' ((c.tc : Thread Cert.LatentsReferenceIdeal.nD Cert.LatentsReferenceIdeal.τ).loc Cert.LatentsReferenceIdeal.main_arg3) = m ((c.tc : Thread Cert.LatentsIdeal.nD Cert.LatentsIdeal.τ).loc Cert.LatentsIdeal.main_arg3)
      ∧ m' ((c.tc : Thread Cert.LatentsReferenceIdeal.nD Cert.LatentsReferenceIdeal.τ).loc Cert.LatentsReferenceIdeal.main_arg4) = m ((c.tc : Thread Cert.LatentsIdeal.nD Cert.LatentsIdeal.τ).loc Cert.LatentsIdeal.main_arg4)) →
    ∃ (v0 : (c : Dev Cert.LatentsIdeal.nD) → Buf (Elt Ideal) ((c.tc : Thread Cert.LatentsIdeal.nD Cert.LatentsIdeal.τ).loc Cert.LatentsIdeal.main_v38_0)) (v1 : (c : Dev Cert.LatentsIdeal.nD) → Buf (Elt Ideal) ((c.tc : Thread Cert.LatentsIdeal.nD Cert.LatentsIdeal.τ).loc Cert.LatentsIdeal.main_v38_1)) (v2 : (c : Dev Cert.LatentsIdeal.nD) → Buf (Elt Ideal) ((c.tc : Thread Cert.LatentsIdeal.nD Cert.LatentsIdeal.τ).loc Cert.LatentsIdeal.main_v38_2)),
      θ_run (Cert.LatentsIdeal.defs (F := Ideal)) (onTc (τ := Cert.LatentsIdeal.τ) (Cert.LatentsIdeal.main (F := Ideal))) ⟨m, fun _ => 0, g⟩ (fun r => ∀ c : Dev Cert.LatentsIdeal.nD,
          r.2.mem ((c.tc : Thread Cert.LatentsIdeal.nD Cert.LatentsIdeal.τ).loc Cert.LatentsIdeal.main_v38_0) = v0 c
          ∧ r.2.mem ((c.tc : Thread Cert.LatentsIdeal.nD Cert.LatentsIdeal.τ).loc Cert.LatentsIdeal.main_v38_1) = v1 c
          ∧ r.2.mem ((c.tc : Thread Cert.LatentsIdeal.nD Cert.LatentsIdeal.τ).loc Cert.LatentsIdeal.main_v38_2) = v2 c
          ∧ r.2.mem ((c.tc : Thread Cert.LatentsIdeal.nD Cert.LatentsIdeal.τ).loc Cert.LatentsIdeal.main_arg0) = m ((c.tc : Thread Cert.LatentsIdeal.nD Cert.LatentsIdeal.τ).loc Cert.LatentsIdeal.main_arg0)
          ∧ r.2.mem ((c.tc : Thread Cert.LatentsIdeal.nD Cert.LatentsIdeal.τ).loc Cert.LatentsIdeal.main_arg1) = m ((c.tc : Thread Cert.LatentsIdeal.nD Cert.LatentsIdeal.τ).loc Cert.LatentsIdeal.main_arg1)
          ∧ r.2.mem ((c.tc : Thread Cert.LatentsIdeal.nD Cert.LatentsIdeal.τ).loc Cert.LatentsIdeal.main_arg2) = m ((c.tc : Thread Cert.LatentsIdeal.nD Cert.LatentsIdeal.τ).loc Cert.LatentsIdeal.main_arg2)
          ∧ r.2.mem ((c.tc : Thread Cert.LatentsIdeal.nD Cert.LatentsIdeal.τ).loc Cert.LatentsIdeal.main_arg3) = m ((c.tc : Thread Cert.LatentsIdeal.nD Cert.LatentsIdeal.τ).loc Cert.LatentsIdeal.main_arg3)
          ∧ r.2.mem ((c.tc : Thread Cert.LatentsIdeal.nD Cert.LatentsIdeal.τ).loc Cert.LatentsIdeal.main_arg4) = m ((c.tc : Thread Cert.LatentsIdeal.nD Cert.LatentsIdeal.τ).loc Cert.LatentsIdeal.main_arg4))
      ∧ θ_run (Cert.LatentsReferenceIdeal.defs (F := Ideal)) (onTc (τ := Cert.LatentsReferenceIdeal.τ) (Cert.LatentsReferenceIdeal.main (F := Ideal))) ⟨m', fun _ => 0, g'⟩ (fun r => ∀ c : Dev Cert.LatentsReferenceIdeal.nD,
          r.2.mem ((c.tc : Thread Cert.LatentsReferenceIdeal.nD Cert.LatentsReferenceIdeal.τ).loc Cert.LatentsReferenceIdeal.main_v119) = v0 c
          ∧ r.2.mem ((c.tc : Thread Cert.LatentsReferenceIdeal.nD Cert.LatentsReferenceIdeal.τ).loc Cert.LatentsReferenceIdeal.main_v122) = v1 c
          ∧ r.2.mem ((c.tc : Thread Cert.LatentsReferenceIdeal.nD Cert.LatentsReferenceIdeal.τ).loc Cert.LatentsReferenceIdeal.main_v124) = v2 c
          ∧ r.2.mem ((c.tc : Thread Cert.LatentsReferenceIdeal.nD Cert.LatentsReferenceIdeal.τ).loc Cert.LatentsReferenceIdeal.main_arg0) = m' ((c.tc : Thread Cert.LatentsReferenceIdeal.nD Cert.LatentsReferenceIdeal.τ).loc Cert.LatentsReferenceIdeal.main_arg0)
          ∧ r.2.mem ((c.tc : Thread Cert.LatentsReferenceIdeal.nD Cert.LatentsReferenceIdeal.τ).loc Cert.LatentsReferenceIdeal.main_arg1) = m' ((c.tc : Thread Cert.LatentsReferenceIdeal.nD Cert.LatentsReferenceIdeal.τ).loc Cert.LatentsReferenceIdeal.main_arg1)
          ∧ r.2.mem ((c.tc : Thread Cert.LatentsReferenceIdeal.nD Cert.LatentsReferenceIdeal.τ).loc Cert.LatentsReferenceIdeal.main_arg2) = m' ((c.tc : Thread Cert.LatentsReferenceIdeal.nD Cert.LatentsReferenceIdeal.τ).loc Cert.LatentsReferenceIdeal.main_arg2)
          ∧ r.2.mem ((c.tc : Thread Cert.LatentsReferenceIdeal.nD Cert.LatentsReferenceIdeal.τ).loc Cert.LatentsReferenceIdeal.main_arg3) = m' ((c.tc : Thread Cert.LatentsReferenceIdeal.nD Cert.LatentsReferenceIdeal.τ).loc Cert.LatentsReferenceIdeal.main_arg3)
          ∧ r.2.mem ((c.tc : Thread Cert.LatentsReferenceIdeal.nD Cert.LatentsReferenceIdeal.τ).loc Cert.LatentsReferenceIdeal.main_arg4) = m' ((c.tc : Thread Cert.LatentsReferenceIdeal.nD Cert.LatentsReferenceIdeal.τ).loc Cert.LatentsReferenceIdeal.main_arg4))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v3)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v3) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v17) = v0 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2))

def preserves_Attention_AttentionIdeal : Prop :=
  True

def algebraic_AttentionIdeal_AttentionReferenceIdeal [hAttentionIdeal : Cert.AttentionIdeal.Facts] [hAttentionReferenceIdeal : Cert.AttentionReferenceIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)
      ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3)) →
    ∃ (v0 : (c : Dev Cert.AttentionIdeal.nD) → Buf (Elt Ideal) ((c.tc : Thread Cert.AttentionIdeal.nD Cert.AttentionIdeal.τ).loc Cert.AttentionIdeal.main_v4)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v4) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v31) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2)
          ∧ r.2.mem ((c.tc : Thread Cert.AttentionReferenceIdeal.nD Cert.AttentionReferenceIdeal.τ).loc Cert.AttentionReferenceIdeal.main_arg3) = m' ((c.tc : Thread Cert.AttentionReferenceIdeal.nD Cert.AttentionReferenceIdeal.τ).loc Cert.AttentionReferenceIdeal.main_arg3))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hLatents : Cert.Latents.Facts) (hLatentsIdeal : Cert.LatentsIdeal.Facts) (hLatentsReferenceIdeal : Cert.LatentsReferenceIdeal.Facts) (hMemory : Cert.Memory.Facts) (hMemoryIdeal : Cert.MemoryIdeal.Facts) (hMemoryReferenceIdeal : Cert.MemoryReferenceIdeal.Facts) (hAttention : Cert.Attention.Facts) (hAttentionIdeal : Cert.AttentionIdeal.Facts) (hAttentionReferenceIdeal : Cert.AttentionReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Latents (hLatents := hLatents)
    ∧ quiescent_LatentsIdeal (hLatentsIdeal := hLatentsIdeal)
    ∧ quiescent_LatentsReferenceIdeal (hLatentsReferenceIdeal := hLatentsReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_Attention (hAttention := hAttention)
    ∧ quiescent_AttentionIdeal (hAttentionIdeal := hAttentionIdeal)
    ∧ quiescent_AttentionReferenceIdeal (hAttentionReferenceIdeal := hAttentionReferenceIdeal)
    ∧ preserves_Kernel_KernelIdeal
    ∧ algebraic_KernelIdeal_ReferenceIdeal (hKernelIdeal := hKernelIdeal) (hReferenceIdeal := hReferenceIdeal)
    ∧ preserves_Merge_MergeIdeal
    ∧ algebraic_MergeIdeal_MergeReferenceIdeal (hMergeIdeal := hMergeIdeal) (hMergeReferenceIdeal := hMergeReferenceIdeal)
    ∧ preserves_Latents_LatentsIdeal
    ∧ algebraic_LatentsIdeal_LatentsReferenceIdeal (hLatentsIdeal := hLatentsIdeal) (hLatentsReferenceIdeal := hLatentsReferenceIdeal)
    ∧ preserves_Memory_MemoryIdeal
    ∧ algebraic_MemoryIdeal_MemoryReferenceIdeal (hMemoryIdeal := hMemoryIdeal) (hMemoryReferenceIdeal := hMemoryReferenceIdeal)
    ∧ preserves_Attention_AttentionIdeal
    ∧ algebraic_AttentionIdeal_AttentionReferenceIdeal (hAttentionIdeal := hAttentionIdeal) (hAttentionReferenceIdeal := hAttentionReferenceIdeal)
-- ==== Kernel.lean ====
abbrev S4x2048x2048 : Shape := ⟨3, ![4, 2048, 2048]⟩
abbrev S1x2048 : Shape := ⟨2, ![1, 2048]⟩
abbrev S1x2048x13120 : Shape := ⟨3, ![1, 2048, 13120]⟩
abbrev S13 : Shape := ⟨1, ![13]⟩
abbrev S8192x2048 : Shape := ⟨2, ![8192, 2048]⟩
abbrev S_ : Shape := ⟨0, ![]⟩
abbrev S1x13312 : Shape := ⟨2, ![1, 13312]⟩
abbrev S1 : Shape := ⟨1, ![1]⟩
abbrev S1x1024 : Shape := ⟨2, ![1, 1024]⟩
abbrev S1x512 : Shape := ⟨2, ![1, 512]⟩
abbrev S1x13120x2048 : Shape := ⟨3, ![1, 13120, 2048]⟩
abbrev S2048 : Shape := ⟨1, ![2048]⟩
abbrev S8192x13312 : Shape := ⟨2, ![8192, 13312]⟩
abbrev S1024x2048 : Shape := ⟨2, ![1024, 2048]⟩
abbrev S1x1024x2048 : Shape := ⟨3, ![1, 1024, 2048]⟩
abbrev S1024x1024 : Shape := ⟨2, ![1024, 1024]⟩
abbrev S64x2048 : Shape := ⟨2, ![64, 2048]⟩
abbrev S64 : Shape := ⟨1, ![64]⟩
abbrev S64x1 : Shape := ⟨2, ![64, 1]⟩

abbrev nBuf : Space → Nat
  | .hbm => 20
  | .vmem => 10
  | .smem => 1
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x13120, .f32⟩
  | .hbm, ⟨3, _⟩ => ⟨S8192x2048, .f32⟩
  | .hbm, ⟨4, _⟩ => ⟨S_, .f32⟩
  | .hbm, ⟨5, _⟩ => ⟨S1x13312, .f32⟩
  | .hbm, ⟨6, _⟩ => ⟨S_, .i32⟩
  | .hbm, ⟨7, _⟩ => ⟨S1, .i32⟩
  | .hbm, ⟨8, _⟩ => ⟨S_, .f32⟩
  | .hbm, ⟨9, _⟩ => ⟨S1x1024, .f32⟩
  | .hbm, ⟨10, _⟩ => ⟨S1x13312, .f32⟩
  | .hbm, ⟨11, _⟩ => ⟨S_, .i32⟩
  | .hbm, ⟨12, _⟩ => ⟨S1, .i32⟩
  | .hbm, ⟨13, _⟩ => ⟨S_, .f32⟩
  | .hbm, ⟨14, _⟩ => ⟨S1x512, .f32⟩
  | .hbm, ⟨15, _⟩ => ⟨S1x13312, .f32⟩
  | .hbm, ⟨16, _⟩ => ⟨S1x13120x2048, .f32⟩
  | .hbm, ⟨17, _⟩ => ⟨S2048, .f32⟩
  | .hbm, ⟨18, _⟩ => ⟨S1x2048, .f32⟩
  | .hbm, ⟨19, _⟩ => ⟨S8192x13312, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1024x2048, .f32⟩
  | .local _ .vmem, ⟨4, _⟩ => ⟨S1x1024x2048, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | .local _ .smem, ⟨0, _⟩ => ⟨S13, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_c_2 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 13], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c64_i32 : BitVec 32 := 64#32
  let v2 : BitVec 32 := Scalar.muli v1 c64_i32
  v2

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c16_i32 : BitVec 32 := 16#32
  let v14 : BitVec 32 := Scalar.addi c0_i32_9 c16_i32
  let c1_i32 : BitVec 32 := 1#32
  ⟨c0_i32_9, v14, c1_i32⟩
def k0_mult2 (k0_t1 : Fin k0_t1_loop.trips) : BitVec 32 :=
  let c0_i32_9 : BitVec 32 := 0#32
  let c1_i32 : BitVec 32 := 1#32
  let arg9 : BitVec 32 := Scf.iv c0_i32_9 c1_i32 k0_t1
  let c64_i32 : BitVec 32 := 64#32
  let v15 : BitVec 32 := Scalar.muli arg9 c64_i32
  v15
def k0_off2 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c64_i32 : BitVec 32 := 64#32
  let v15 : BitVec 32 := Scalar.muli arg9 c64_i32
  let v16 : BitVec 32 := v15
  let v17 : Index := Scalar.indexCast v16
  let c0_11 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S13.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S13) ![v0.toNat] S1.size (k0_off1_inb i)) numel1_S1
  let c64_i32 : BitVec 32 := 64#32
  let v2 : BitVec 32 := Scalar.muli v1 c64_i32
  let v3 : BitVec 32 := v2
  let c0_i32 : BitVec 32 := 0#32
  let c0_i32_0 : BitVec 32 := 0#32
  let c0_i32_1 : BitVec 32 := 0#32
  ![c0_i32.toNat, v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x2048x2048 : Shape := ⟨3, ![4, 2048, 2048]⟩
abbrev S1x2048 : Shape := ⟨2, ![1, 2048]⟩
abbrev S1x2048x13120 : Shape := ⟨3, ![1, 2048, 13120]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x13120 : Shape := ⟨2, ![2048, 13120]⟩
abbrev S4x2048x13120 : Shape := ⟨3, ![4, 2048, 13120]⟩
abbrev S4x2048x1024 : Shape := ⟨3, ![4, 2048, 1024]⟩
abbrev S4x2048x512 : Shape := ⟨3, ![4, 2048, 512]⟩
abbrev S4x2048x256 : Shape := ⟨3, ![4, 2048, 256]⟩
abbrev S4x2048x64 : Shape := ⟨3, ![4, 2048, 64]⟩
abbrev S4x2048x192 : Shape := ⟨3, ![4, 2048, 192]⟩
abbrev S4x2048x13312 : Shape := ⟨3, ![4, 2048, 13312]⟩
abbrev S8192x13312 : Shape := ⟨2, ![8192, 13312]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x13120, .f32⟩
  | .hbm, ⟨3, _⟩ => ⟨S2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S2048x13120, .f32⟩
  | .hbm, ⟨21, _⟩ => ⟨S4x2048x13120, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x512, .f32⟩
  | .hbm, ⟨27, _⟩ => ⟨S4x2048x256, .f32⟩
  | .hbm, ⟨28, _⟩ => ⟨S4x2048x64, .f32⟩
  | .hbm, ⟨29, _⟩ => ⟨S4x2048x1024, .f32⟩
  | .hbm, ⟨30, _⟩ => ⟨S4x2048x512, .f32⟩
  | .hbm, ⟨31, _⟩ => ⟨S4x2048x512, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048x1024, .f32⟩
  | .hbm, ⟨37, _⟩ => ⟨S4x2048x1024, .f32⟩
  | .hbm, ⟨38, _⟩ => ⟨S4x2048x192, .f32⟩
  | .hbm, ⟨39, _⟩ => ⟨S_, .f32⟩
  | .hbm, ⟨40, _⟩ => ⟨S4x2048x512, .f32⟩
  | .hbm, ⟨41, _⟩ => ⟨S4x2048x512, .f32⟩
  | .hbm, ⟨42, _⟩ => ⟨S4x2048x13312, .f32⟩
  | .hbm, ⟨43, _⟩ => ⟨S8192x13312, .f32⟩
  | .hbm, ⟨44, _⟩ => ⟨S8192x13312, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Merge.lean ====
abbrev S4x2048x1024 : Shape := ⟨3, ![4, 2048, 1024]⟩
abbrev S4x2048x512 : Shape := ⟨3, ![4, 2048, 512]⟩
abbrev S8192x13312 : Shape := ⟨2, ![8192, 13312]⟩
abbrev S4x2048x2048 : Shape := ⟨3, ![4, 2048, 2048]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S2048 : Shape := ⟨1, ![2048]⟩
abbrev S8192x2048 : Shape := ⟨2, ![8192, 2048]⟩
abbrev S1024x2048 : Shape := ⟨2, ![1024, 2048]⟩
abbrev S512x2048 : Shape := ⟨2, ![512, 2048]⟩
abbrev S2048x2048 : Shape := ⟨2, ![2048, 2048]⟩
abbrev S8192x1024 : Shape := ⟨2, ![8192, 1024]⟩
abbrev S8192x512 : Shape := ⟨2, ![8192, 512]⟩
abbrev S1x2048 : Shape := ⟨2, ![1, 2048]⟩
abbrev S256x1024 : Shape := ⟨2, ![256, 1024]⟩
abbrev S256x512 : Shape := ⟨2, ![256, 512]⟩
abbrev S256x6144 : Shape := ⟨2, ![256, 6144]⟩
abbrev S256x2048 : Shape := ⟨2, ![256, 2048]⟩
abbrev S256 : Shape := ⟨1, ![256]⟩
abbrev S256x1 : Shape := ⟨2, ![256, 1]⟩

abbrev nBuf : Space → Nat
  | .hbm => 24
  | .vmem => 17
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x512, .bf16⟩
  | .hbm, ⟨3, _⟩ => ⟨S8192x13312, .bf16⟩
  | .hbm, ⟨4, _⟩ => ⟨S4x2048x2048, .f32⟩
  | .hbm, ⟨5, _⟩ => ⟨S1x1024x2048, .f32⟩
  | .hbm, ⟨6, _⟩ => ⟨S1x1024x2048, .f32⟩
  | .hbm, ⟨7, _⟩ => ⟨S1x512x2048, .f32⟩
  | .hbm, ⟨8, _⟩ => ⟨S1x2048x2048, .f32⟩
  | .hbm, ⟨9, _⟩ => ⟨S2048, .f32⟩
  | .hbm, ⟨10, _⟩ => ⟨S8192x2048, .f32⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S512x2048, .f32⟩
  | .hbm, ⟨16, _⟩ => ⟨S512x2048, .bf16⟩
  | .hbm, ⟨17, _⟩ => ⟨S2048x2048, .f32⟩
  | .hbm, ⟨18, _⟩ => ⟨S2048x2048, .bf16⟩
  | .hbm, ⟨19, _⟩ => ⟨S8192x1024, .bf16⟩
  | .hbm, ⟨20, _⟩ => ⟨S8192x1024, .bf16⟩
  | .hbm, ⟨21, _⟩ => ⟨S8192x512, .bf16⟩
  | .hbm, ⟨22, _⟩ => ⟨S1x2048, .f32⟩
  | .hbm, ⟨23, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x6144, .bf16⟩
  | .local _ .vmem, ⟨7, _⟩ => ⟨S256x6144, .bf16⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S512x2048, .bf16⟩
  | .local _ .vmem, ⟨13, _⟩ => ⟨S2048x2048, .bf16⟩
  | .local _ .vmem, ⟨14, _⟩ => ⟨S1x2048, .f32⟩
  | .local _ .vmem, ⟨15, _⟩ => ⟨S256x2048, .f32⟩
  | .local _ .vmem, ⟨16, _⟩ => ⟨S256x2048, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S4x2048x1024 : Shape := ⟨3, ![4, 2048, 1024]⟩
abbrev S4x2048x512 : Shape := ⟨3, ![4, 2048, 512]⟩
abbrev S8192x13312 : Shape := ⟨2, ![8192, 13312]⟩
abbrev S4x2048x2048 : Shape := ⟨3, ![4, 2048, 2048]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S2048 : Shape := ⟨1, ![2048]⟩
abbrev S8192x6144 : Shape := ⟨2, ![8192, 6144]⟩
abbrev S4x2048x6144 : Shape := ⟨3, ![4, 2048, 6144]⟩
abbrev S1024x2048 : Shape := ⟨2, ![1024, 2048]⟩
abbrev S512x2048 : Shape := ⟨2, ![512, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 74
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x512, .bf16⟩
  | .hbm, ⟨3, _⟩ => ⟨S8192x13312, .bf16⟩
  | .hbm, ⟨4, _⟩ => ⟨S4x2048x2048, .f32⟩
  | .hbm, ⟨5, _⟩ => ⟨S1x1024x2048, .f32⟩
  | .hbm, ⟨6, _⟩ => ⟨S1x1024x2048, .f32⟩
  | .hbm, ⟨7, _⟩ => ⟨S1x512x2048, .f32⟩
  | .hbm, ⟨8, _⟩ => ⟨S1x2048x2048, .f32⟩
  | .hbm, ⟨9, _⟩ => ⟨S2048, .f32⟩
  | .hbm, ⟨10, _⟩ => ⟨S8192x6144, .bf16⟩
  | .hbm, ⟨11, _⟩ => ⟨S8192x6144, .f32⟩
  | .hbm, ⟨12, _⟩ => ⟨S4x2048x6144, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S4x2048x1024, .f32⟩
  | .hbm, ⟨17, _⟩ => ⟨S1024x2048, .f32⟩
  | .hbm, ⟨18, _⟩ => ⟨S4x2048x2048, .f32⟩
  | .hbm, ⟨19, _⟩ => ⟨S4x2048x1024, .f32⟩
  | .hbm, ⟨20, _⟩ => ⟨S1024x2048, .f32⟩
  | .hbm, ⟨21, _⟩ => ⟨S4x2048x2048, .f32⟩
  | .hbm, ⟨22, _⟩ => ⟨S4x2048x512, .f32⟩
  | .hbm, ⟨23, _⟩ => ⟨S512x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x2048x2048, .f32⟩
  | .hbm, ⟨38, _⟩ => ⟨S4x2048x2048, .f32⟩
  | .hbm, ⟨39, _⟩ => ⟨S_, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S4x2048x2048, .f32⟩
  | .hbm, ⟨48, _⟩ => ⟨S4x2048x2048, .f32⟩
  | .hbm, ⟨49, _⟩ => ⟨S_, .f32⟩
  | .hbm, ⟨50, _⟩ => ⟨S4x2048x2048, .f32⟩
  | .hbm, ⟨51, _⟩ => ⟨S4x2048x2048, .f32⟩
  | .hbm, ⟨52, _⟩ => ⟨S4x2048x2048, .f32⟩
  | .hbm, ⟨53, _⟩ => ⟨S4x2048x2048, .f32⟩
  | .hbm, ⟨54, _⟩ => ⟨S2048x2048, .f32⟩
  | .hbm, ⟨55, _⟩ => ⟨S4x2048x2048, .f32⟩
  | .hbm, ⟨56, _⟩ => ⟨S4x2048x2048, .f32⟩
  | .hbm, ⟨57, _⟩ => ⟨S4x2048x2048, .f32⟩
  | .hbm, ⟨58, _⟩ => ⟨S_, .f32⟩
  | .hbm, ⟨59, _⟩ => ⟨S4x2048, .f32⟩
  | .hbm, ⟨60, _⟩ => ⟨S4x2048x1, .f32⟩
  | .hbm, ⟨61, _⟩ => ⟨S_, .f32⟩
  | .hbm, ⟨62, _⟩ => ⟨S4x2048x1, .f32⟩
  | .hbm, ⟨63, _⟩ => ⟨S4x2048x1, .f32⟩
  | .hbm, ⟨64, _⟩ => ⟨S_, .f32⟩
  | .hbm, ⟨65, _⟩ => ⟨S4x2048x1, .f32⟩
  | .hbm, ⟨66, _⟩ => ⟨S4x2048x1, .f32⟩
  | .hbm, ⟨67, _⟩ => ⟨S4x2048x1, .f32⟩
  | .hbm, ⟨68, _⟩ => ⟨S4x2048x2048, .f32⟩
  | .hbm, ⟨69, _⟩ => ⟨S4x2048x2048, .f32⟩
  | .hbm, ⟨70, _⟩ => ⟨S1x1x2048, .f32⟩
  | .hbm, ⟨71, _⟩ => ⟨S4x2048x2048, .f32⟩
  | .hbm, ⟨72, _⟩ => ⟨S4x2048x2048, .f32⟩
  | .hbm, ⟨73, _⟩ => ⟨S8192x2048, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Latents.lean ====
abbrev S8192x13312 : Shape := ⟨2, ![8192, 13312]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S512 : Shape := ⟨1, ![512]⟩
abbrev S256 : Shape := ⟨1, ![256]⟩
abbrev S512x1536 : Shape := ⟨2, ![512, 1536]⟩
abbrev S512x8x192 : Shape := ⟨3, ![512, 8, 192]⟩
abbrev S512x8x64 : Shape := ⟨3, ![512, 8, 64]⟩
abbrev S512x8x256 : Shape := ⟨3, ![512, 8, 256]⟩
abbrev S512x2048 : Shape := ⟨2, ![512, 2048]⟩
abbrev S256x2048 : Shape := ⟨2, ![256, 2048]⟩
abbrev S256x8x256 : Shape := ⟨3, ![256, 8, 256]⟩
abbrev S256x8x128 : Shape := ⟨3, ![256, 8, 128]⟩
abbrev S256x1024 : Shape := ⟨2, ![256, 1024]⟩
abbrev S8192x2048 : Shape := ⟨2, ![8192, 2048]⟩
abbrev S8192x1024 : Shape := ⟨2, ![8192, 1024]⟩
abbrev S512x512 : Shape := ⟨2, ![512, 512]⟩
abbrev S512x256 : Shape := ⟨2, ![512, 256]⟩
abbrev S512x128 : Shape := ⟨2, ![512, 128]⟩
abbrev S512x1024 : Shape := ⟨2, ![512, 1024]⟩
abbrev S512x1 : Shape := ⟨2, ![512, 1]⟩

abbrev nBuf : Space → Nat
  | .hbm => 51
  | .vmem => 20
  | .smem => 0
  | _ => 0

abbrev bufTy : (tb : Table) → Fin (tcTables nBuf tb) → BufTy
  | .hbm, ⟨0, _⟩ => ⟨S8192x13312, .bf16⟩
  | .hbm, ⟨1, _⟩ => ⟨S1x512, .f32⟩
  | .hbm, ⟨2, _⟩ => ⟨S1x512x1536, .f32⟩
  | .hbm, ⟨3, _⟩ => ⟨S1x256, .f32⟩
  | .hbm, ⟨4, _⟩ => ⟨S1x256x2048, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S2048, .i32⟩
  | .hbm, ⟨14, _⟩ => ⟨S2048, .f32⟩
  | .hbm, ⟨15, _⟩ => ⟨S2048x1, .f32⟩
  | .hbm, ⟨16, _⟩ => ⟨S1x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S_, .f32⟩
  | .hbm, ⟨23, _⟩ => ⟨S2048x64, .f32⟩
  | .hbm, ⟨24, _⟩ => ⟨S2048x128, .f32⟩
  | .hbm, ⟨25, _⟩ => ⟨S2048x32, .f32⟩
  | .hbm, ⟨26, _⟩ => ⟨S_, .f32⟩
  | .hbm, ⟨27, _⟩ => ⟨S2048x64, .f32⟩
  | .hbm, ⟨28, _⟩ => ⟨S2048x128, .f32⟩
  | .hbm, ⟨29, _⟩ => ⟨S512, .f32⟩
  | .hbm, ⟨30, _⟩ => ⟨S256, .f32⟩
  | .hbm, ⟨31, _⟩ => ⟨S512x1536, .f32⟩
  | .hbm, ⟨32, _⟩ => ⟨S512x8x192, .f32⟩
  | .hbm, ⟨33, _⟩ => ⟨S_, .f32⟩
  | .hbm, ⟨34, _⟩ => ⟨S512x8x64, .f32⟩
  | .hbm, ⟨35, _⟩ => ⟨S512x8x256, .f32⟩
  | .hbm, ⟨36, _⟩ => ⟨S512x2048, .f32⟩
  | .hbm, ⟨37, _⟩ => ⟨S512x2048, .bf16⟩
  | .hbm, ⟨38, _⟩ => ⟨S256x2048, .f32⟩
  | .hbm, ⟨39, _⟩ => ⟨S256x8x256, .f32⟩
  | .hbm, ⟨40, _⟩ => ⟨S256x8x128, .f32⟩
  | .hbm, ⟨41, _⟩ => ⟨S256x1024, .f32⟩
  | .hbm, ⟨42, _⟩ => ⟨S256x8x128, .f32⟩
  | .hbm, ⟨43, _⟩ => ⟨S256x1024, .f32⟩
  | .hbm, ⟨44, _⟩ => ⟨S256x2048, .f32⟩
  | .hbm, ⟨45, _⟩ => ⟨S256x2048, .bf16⟩
  | .hbm, ⟨46, _⟩ => ⟨S1x512, .f32⟩
  | .hbm, ⟨47, _⟩ => ⟨S1x256, .f32⟩
  | .hbm, ⟨48, _⟩ => ⟨S8192x2048, .bf16⟩
  | .hbm, ⟨49, _⟩ => ⟨S8192x2048, .bf16⟩
  | .hbm, ⟨50, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S1x512, .f32⟩
  | .local _ .vmem, ⟨7, _⟩ => ⟨S1x256, .f32⟩
  | .local _ .vmem, ⟨8, _⟩ => ⟨S512x2048, .bf16⟩
  | .local _ .vmem, ⟨9, _⟩ => ⟨S256x2048, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x1024, .bf16⟩
  | .local _ .vmem, ⟨19, _⟩ => ⟨S512x1024, .bf16⟩
  | _, _ => ⟨S8192x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38_0 : Ref sig .tc := ⟨.hbm, 48, rfl⟩
abbrev main_v38_1 : Ref sig .tc := ⟨.hbm, 49, rfl⟩
abbrev main_v38_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_1 (i : grid0.Coords) : Fin 2 → Nat :=
  let arg0 : BitVec 32 := BitVec.ofNat 32 (i 0).val
  let c46_i32 : BitVec 32 := 46#32
  let c0_i32 : BitVec 32 := 0#32
  ![arg0.toNat, c46_i32.toNat]

def cc0_transform_2 (i : grid0.Coords) : Fin 2 → Nat :=
  let arg0 : BitVec 32 := BitVec.ofNat 32 (i 0).val
  let c47_i32 : BitVec 32 := 47#32
  let c0_i32 : BitVec 32 := 0#32
  ![arg0.toNat, c47_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== LatentsReferenceIdeal.lean ====
abbrev S8192x13312 : Shape := ⟨2, ![8192, 13312]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S2048 : Shape := ⟨1, ![2048]⟩
abbrev S8192x512 : Shape := ⟨2, ![8192, 512]⟩
abbrev S4x2048x512 : Shape := ⟨3, ![4, 2048, 512]⟩
abbrev S8192x256 : Shape := ⟨2, ![8192, 256]⟩
abbrev S4x2048x256 : Shape := ⟨3, ![4, 2048, 256]⟩
abbrev S8192x64 : Shape := ⟨2, ![8192, 64]⟩
abbrev S4x2048x64 : Shape := ⟨3, ![4, 2048, 64]⟩
abbrev S512 : Shape := ⟨1, ![512]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S512x1536 : Shape := ⟨2, ![512, 1536]⟩
abbrev S4x2048x1536 : Shape := ⟨3, ![4, 2048, 1536]⟩
abbrev S4x2048x8x192 : Shape := ⟨4, ![4, 2048, 8, 192]⟩
abbrev S4x2048x8x128 : Shape := ⟨4, ![4, 2048, 8, 128]⟩
abbrev S4x2048x8x64 : Shape := ⟨4, ![4, 2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x8x32 : Shape := ⟨4, ![4, 2048, 8, 32]⟩
abbrev S256 : Shape := ⟨1, ![256]⟩
abbrev S1x1x256 : Shape := ⟨3, ![1, 1, 256]⟩
abbrev S256x2048 : Shape := ⟨2, ![256, 2048]⟩
abbrev S4x2048x2048 : Shape := ⟨3, ![4, 2048, 2048]⟩
abbrev S4x2048x8x256 : Shape := ⟨4, ![4, 2048, 8, 256]⟩
abbrev S4x2048x1x64 : Shape := ⟨4, ![4, 2048, 1, 64]⟩
abbrev S4x2048x1x32 : Shape := ⟨4, ![4, 2048, 1, 32]⟩
abbrev S8192x2048 : Shape := ⟨2, ![8192, 2048]⟩
abbrev S8192x1024 : Shape := ⟨2, ![8192, 1024]⟩

abbrev nBuf : Space → Nat
  | .hbm => 142
  | .vmem => 0
  | .smem => 0
  | _ => 0

abbrev hbmTy0_0 (i : Nat) : BufTy := match i % 128 with
  | 0 => ⟨S8192x13312, .bf16⟩
  | 1 => ⟨S1x512, .f32⟩
  | 2 => ⟨S1x512x1536, .f32⟩
  | 3 => ⟨S1x256, .f32⟩
  | 4 => ⟨S1x256x2048, .f32⟩
  | 5 => ⟨S2048, .i32⟩
  | 6 => ⟨S8192x512, .bf16⟩
  | 7 => ⟨S4x2048x512, .bf16⟩
  | 8 => ⟨S8192x256, .bf16⟩
  | 9 => ⟨S4x2048x256, .bf16⟩
  | 10 => ⟨S8192x64, .bf16⟩
  | 11 => ⟨S8192x64, .f32⟩
  | 12 => ⟨S4x2048x64, .f32⟩
  | 13 => ⟨S512, .f32⟩
  | 14 => ⟨S4x2048x512, .f32⟩
  | 15 => ⟨S4x2048x512, .f32⟩
  | 16 => ⟨S_, .f32⟩
  | 17 => ⟨S4x2048, .f32⟩
  | 18 => ⟨S4x2048x1, .f32⟩
  | 19 => ⟨S_, .f32⟩
  | 20 => ⟨S4x2048x1, .f32⟩
  | 21 => ⟨S4x2048x1, .f32⟩
  | 22 => ⟨S_, .f32⟩
  | 23 => ⟨S4x2048x1, .f32⟩
  | 24 => ⟨S4x2048x1, .f32⟩
  | 25 => ⟨S4x2048x1, .f32⟩
  | 26 => ⟨S4x2048x512, .f32⟩
  | 27 => ⟨S4x2048x512, .f32⟩
  | 28 => ⟨S1x1x512, .f32⟩
  | 29 => ⟨S4x2048x512, .f32⟩
  | 30 => ⟨S4x2048x512, .f32⟩
  | 31 => ⟨S4x2048x512, .bf16⟩
  | 32 => ⟨S4x2048x512, .f32⟩
  | 33 => ⟨S512x1536, .f32⟩
  | 34 => ⟨S4x2048x1536, .f32⟩
  | 35 => ⟨S4x2048x8x192, .f32⟩
  | 36 => ⟨S4x2048x8x128, .f32⟩
  | 37 => ⟨S4x2048x8x64, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S2048, .f32⟩
  | 47 => ⟨S2048x1, .f32⟩
  | 48 => ⟨S1x32, .f32⟩
  | 49 => ⟨S2048x32, .f32⟩
  | 50 => ⟨S2048x32, .f32⟩
  | 51 => ⟨S2048x32, .f32⟩
  | 52 => ⟨S2048x32, .f32⟩
  | 53 => ⟨S1x2048x1x32, .f32⟩
  | 54 => ⟨S2048x32, .f32⟩
  | 55 => ⟨S1x2048x1x32, .f32⟩
  | 56 => ⟨S4x2048x8x32, .f32⟩
  | 57 => ⟨S4x2048x8x32, .f32⟩
  | 58 => ⟨S4x2048x8x32, .f32⟩
  | 59 => ⟨S4x2048x8x32, .f32⟩
  | 60 => ⟨S4x2048x8x32, .f32⟩
  | 61 => ⟨S4x2048x8x32, .f32⟩
  | 62 => ⟨S4x2048x8x32, .f32⟩
  | 63 => ⟨S4x2048x8x32, .f32⟩
  | 64 => ⟨S4x2048x8x32, .f32⟩
  | 65 => ⟨S4x2048x8x32, .f32⟩
  | 66 => ⟨S4x2048x8x32, .f32⟩
  | 67 => ⟨S4x2048x8x32, .f32⟩
  | 68 => ⟨S4x2048x8x64, .f32⟩
  | 69 => ⟨S4x2048x8x192, .f32⟩
  | 70 => ⟨S256, .f32⟩
  | 71 => ⟨S4x2048x256, .f32⟩
  | 72 => ⟨S4x2048x256, .f32⟩
  | 73 => ⟨S_, .f32⟩
  | 74 => ⟨S4x2048, .f32⟩
  | 75 => ⟨S4x2048x1, .f32⟩
  | 76 => ⟨S_, .f32⟩
  | 77 => ⟨S4x2048x1, .f32⟩
  | 78 => ⟨S4x2048x1, .f32⟩
  | 79 => ⟨S_, .f32⟩
  | 80 => ⟨S4x2048x1, .f32⟩
  | 81 => ⟨S4x2048x1, .f32⟩
  | 82 => ⟨S4x2048x1, .f32⟩
  | 83 => ⟨S4x2048x256, .f32⟩
  | 84 => ⟨S4x2048x256, .f32⟩
  | 85 => ⟨S1x1x256, .f32⟩
  | 86 => ⟨S4x2048x256, .f32⟩
  | 87 => ⟨S4x2048x256, .f32⟩
  | 88 => ⟨S4x2048x256, .bf16⟩
  | 89 => ⟨S4x2048x256, .f32⟩
  | 90 => ⟨S256x2048, .f32⟩
  | 91 => ⟨S4x2048x2048, .f32⟩
  | 92 => ⟨S4x2048x8x256, .f32⟩
  | 93 => ⟨S4x2048x1x64, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S2048, .f32⟩
  | 103 => ⟨S2048x1, .f32⟩
  | 104 => ⟨S1x32, .f32⟩
  | 105 => ⟨S2048x32, .f32⟩
  | 106 => ⟨S2048x32, .f32⟩
  | 107 => ⟨S2048x32, .f32⟩
  | 108 => ⟨S2048x32, .f32⟩
  | 109 => ⟨S1x2048x1x32, .f32⟩
  | 110 => ⟨S2048x32, .f32⟩
  | 111 => ⟨S1x2048x1x32, .f32⟩
  | 112 => ⟨S4x2048x1x32, .f32⟩
  | 113 => ⟨S4x2048x1x32, .f32⟩
  | 114 => ⟨S4x2048x1x32, .f32⟩
  | 115 => ⟨S4x2048x1x32, .f32⟩
  | 116 => ⟨S4x2048x1x32, .f32⟩
  | 117 => ⟨S4x2048x1x32, .f32⟩
  | 118 => ⟨S4x2048x1x32, .f32⟩
  | 119 => ⟨S4x2048x1x32, .f32⟩
  | 120 => ⟨S4x2048x1x32, .f32⟩
  | 121 => ⟨S4x2048x1x32, .f32⟩
  | 122 => ⟨S4x2048x1x32, .f32⟩
  | 123 => ⟨S4x2048x1x32, .f32⟩
  | 124 => ⟨S4x2048x1x64, .f32⟩
  | 125 => ⟨S4x2048x8x64, .f32⟩
  | 126 => ⟨S4x2048x8x128, .f32⟩
  | 127 => ⟨S4x2048x8x192, .f32⟩
  | _ => ⟨S8192x13312, .bf16⟩

abbrev hbmTy0_1 (i : Nat) : BufTy := match i % 128 with
  | 0 => ⟨S4x2048x8x128, .f32⟩
  | 1 => ⟨S_, .f32⟩
  | 2 => ⟨S4x2048x8x64, .f32⟩
  | 3 => ⟨S_, .f32⟩
  | 4 => ⟨S4x2048x8x192, .f32⟩
  | 5 => ⟨S4x2048x8x192, .f32⟩
  | 6 => ⟨S4x2048x8x256, .f32⟩
  | 7 => ⟨S8192x2048, .f32⟩
  | 8 => ⟨S8192x2048, .bf16⟩
  | 9 => ⟨S4x2048x8x256, .f32⟩
  | 10 => ⟨S8192x2048, .f32⟩
  | 11 => ⟨S8192x2048, .bf16⟩
  | 12 => ⟨S8192x1024, .f32⟩
  | 13 => ⟨S8192x1024, .bf16⟩
  | _ => ⟨S8192x13312, .bf16⟩

abbrev hbmTy (i : Nat) : BufTy := match i / 128 with
  | 0 => hbmTy0_0 i
  | 1 => hbmTy0_1 i
  | _ => ⟨S8192x13312, .bf16⟩

abbrev bufTy : (tb : Table) → Fin (tcTables nBuf tb) → BufTy
  | .hbm, ⟨i, _⟩ => hbmTy i
  | _, _ => ⟨S8192x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_4 : Ref sig .tc := ⟨.hbm, 73, rfl⟩
abbrev main_v63 : Ref sig .tc := ⟨.hbm, 74, rfl⟩
abbrev main_v64 : Ref sig .tc := ⟨.hbm, 75, rfl⟩
abbrev main_cst_5 : Ref sig .tc := ⟨.hbm, 76, rfl⟩
abbrev main_v65 : Ref sig .tc := ⟨.hbm, 77, rfl⟩
abbrev main_v66 : Ref sig .tc := ⟨.hbm, 78, rfl⟩
abbrev main_cst_6 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst_7 : Ref sig .tc := ⟨.hbm, 96, rfl⟩
abbrev main_v83 : Ref sig .tc := ⟨.hbm, 97, rfl⟩
abbrev main_v84 : Ref sig .tc := ⟨.hbm, 98, rfl⟩
abbrev main_cst_8 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_cst_9 : Ref sig .tc := ⟨.hbm, 129, rfl⟩
abbrev main_v114 : Ref sig .tc := ⟨.hbm, 130, rfl⟩
abbrev main_cst_10 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩

abbrev nD : Nat := 1
abbrev τ : Topo := Topo.v7x

variable {F : FTy → Type} [FloatOps F]
-- ==== Memory.lean ====
abbrev S4x256x2048 : Shape := ⟨3, ![4, 256, 2048]⟩
abbrev S1x2048 : Shape := ⟨2, ![1, 2048]⟩
abbrev S1x2048x1024 : Shape := ⟨3, ![1, 2048, 1024]⟩
abbrev S1024x2048 : Shape := ⟨2, ![1024, 2048]⟩
abbrev S2048 : Shape := ⟨1, ![2048]⟩
abbrev S1024x1024 : Shape := ⟨2, ![1024, 1024]⟩
abbrev S1x2048x512 : Shape := ⟨3, ![1, 2048, 512]⟩
abbrev S1024x512 : Shape := ⟨2, ![1024, 512]⟩
abbrev S64x2048 : Shape := ⟨2, ![64, 2048]⟩
abbrev S64 : Shape := ⟨1, ![64]⟩
abbrev S64x1 : Shape := ⟨2, ![64, 1]⟩
abbrev S2048x512 : Shape := ⟨2, ![2048, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x1024, .f32⟩
  | .hbm, ⟨3, _⟩ => ⟨S1024x2048, .f32⟩
  | .hbm, ⟨4, _⟩ => ⟨S2048, .f32⟩
  | .hbm, ⟨5, _⟩ => ⟨S1x2048, .f32⟩
  | .hbm, ⟨6, _⟩ => ⟨S1024x1024, .bf16⟩
  | .local _ .vmem, ⟨0, _⟩ => ⟨S1024x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c16_i32 : BitVec 32 := 16#32
  let v10 : BitVec 32 := Scalar.addi c0_i32_7 c16_i32
  let c1_i32 : BitVec 32 := 1#32
  ⟨c0_i32_7, v10, c1_i32⟩
def k0_mult1 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c64_i32 : BitVec 32 := 64#32
  let v11 : BitVec 32 := Scalar.muli arg7 c64_i32
  v11
def k0_off1 (k0_t1 : Fin k0_t1_loop.trips) : Fin 2 → Nat :=
  let c0_i32_7 : BitVec 32 := 0#32
  let c1_i32 : BitVec 32 := 1#32
  let arg7 : BitVec 32 := Scf.iv c0_i32_7 c1_i32 k0_t1
  let c64_i32 : BitVec 32 := 64#32
  let v11 : BitVec 32 := Scalar.muli arg7 c64_i32
  let v12 : BitVec 32 := v11
  let v13 : Index := Scalar.indexCast v12
  let c0_9 : Index := 0#32
  ![v13.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemoryReferenceIdeal.lean ====
abbrev S4x256x2048 : Shape := ⟨3, ![4, 256, 2048]⟩
abbrev S1x2048 : Shape := ⟨2, ![1, 2048]⟩
abbrev S1x2048x1024 : Shape := ⟨3, ![1, 2048, 1024]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S2048x1024 : Shape := ⟨2, ![2048, 1024]⟩
abbrev S4x256x1024 : Shape := ⟨3, ![4, 256, 1024]⟩
abbrev S1024x1024 : Shape := ⟨2, ![1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x1024, .f32⟩
  | .hbm, ⟨3, _⟩ => ⟨S2048, .f32⟩
  | .hbm, ⟨4, _⟩ => ⟨S4x256x2048, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x2048, .f32⟩
  | .hbm, ⟨16, _⟩ => ⟨S4x256x2048, .f32⟩
  | .hbm, ⟨17, _⟩ => ⟨S1x1x2048, .f32⟩
  | .hbm, ⟨18, _⟩ => ⟨S4x256x2048, .f32⟩
  | .hbm, ⟨19, _⟩ => ⟨S4x256x2048, .f32⟩
  | .hbm, ⟨20, _⟩ => ⟨S2048x1024, .f32⟩
  | .hbm, ⟨21, _⟩ => ⟨S4x256x1024, .f32⟩
  | .hbm, ⟨22, _⟩ => ⟨S1024x1024, .f32⟩
  | .hbm, ⟨23, _⟩ => ⟨S1024x1024, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Attention.lean ====
abbrev S8192x2048 : Shape := ⟨2, ![8192, 2048]⟩
abbrev S8192x1024 : Shape := ⟨2, ![8192, 1024]⟩
abbrev S8192x13312 : Shape := ⟨2, ![8192, 13312]⟩
abbrev S4x2048x2048 : Shape := ⟨3, ![4, 2048, 2048]⟩
abbrev S4x2048x1024 : Shape := ⟨3, ![4, 2048, 1024]⟩
abbrev S4x2048x13312 : Shape := ⟨3, ![4, 2048, 13312]⟩
abbrev S1x2048x1024 : Shape := ⟨3, ![1, 2048, 1024]⟩
abbrev S1x2048x512 : Shape := ⟨3, ![1, 2048, 512]⟩
abbrev S256x256 : Shape := ⟨2, ![256, 256]⟩
abbrev S144x2048 : Shape := ⟨2, ![144, 2048]⟩
abbrev S2048x256 : Shape := ⟨2, ![2048, 256]⟩
abbrev S1x2048x128 : Shape := ⟨3, ![1, 2048, 128]⟩
abbrev S2048x128 : Shape := ⟨2, ![2048, 128]⟩
abbrev S256x128 : Shape := ⟨2, ![256, 128]⟩
abbrev S128x256 : Shape := ⟨2, ![128, 256]⟩
abbrev S16x256 : Shape := ⟨2, ![16, 256]⟩
abbrev S1x2048x256 : Shape := ⟨3, ![1, 2048, 256]⟩
abbrev S256 : Shape := ⟨1, ![256]⟩
abbrev S1x256 : Shape := ⟨2, ![1, 256]⟩
abbrev S144x256 : Shape := ⟨2, ![144, 256]⟩
abbrev S1x256x128 : Shape := ⟨3, ![1, 256, 128]⟩
abbrev S144x512 : Shape := ⟨2, ![144, 512]⟩
abbrev S512x256 : Shape := ⟨2, ![512, 256]⟩
abbrev S144x768 : Shape := ⟨2, ![144, 768]⟩
abbrev S768x256 : Shape := ⟨2, ![768, 256]⟩
abbrev S144x1024 : Shape := ⟨2, ![144, 1024]⟩
abbrev S1024x256 : Shape := ⟨2, ![1024, 256]⟩
abbrev S144x1280 : Shape := ⟨2, ![144, 1280]⟩
abbrev S1280x256 : Shape := ⟨2, ![1280, 256]⟩
abbrev S144x1536 : Shape := ⟨2, ![144, 1536]⟩
abbrev S1536x256 : Shape := ⟨2, ![1536, 256]⟩
abbrev S144x1792 : Shape := ⟨2, ![144, 1792]⟩
abbrev S1792x256 : Shape := ⟨2, ![1792, 256]⟩

abbrev nBuf : Space → Nat
  | .hbm => 9
  | .vmem => 27
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x13312, .bf16⟩
  | .hbm, ⟨4, _⟩ => ⟨S4x2048x2048, .bf16⟩
  | .hbm, ⟨5, _⟩ => ⟨S4x2048x2048, .bf16⟩
  | .hbm, ⟨6, _⟩ => ⟨S4x2048x1024, .bf16⟩
  | .hbm, ⟨7, _⟩ => ⟨S4x2048x13312, .bf16⟩
  | .hbm, ⟨8, _⟩ => ⟨S4x2048x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S256x256, .f32⟩
  | .local _ .vmem, ⟨11, _⟩ => ⟨S144x2048, .bf16⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S144x2048, .bf16⟩
  | .local _ .vmem, ⟨16, _⟩ => ⟨S2048x256, .f32⟩
  | .local _ .vmem, ⟨17, _⟩ => ⟨S2048x256, .f32⟩
  | .local _ .vmem, ⟨18, _⟩ => ⟨S2048x256, .bf16⟩
  | .local _ .vmem, ⟨19, _⟩ => ⟨S144x2048, .bf16⟩
  | .local _ .vmem, ⟨20, _⟩ => ⟨S2048x256, .f32⟩
  | .local _ .vmem, ⟨21, _⟩ => ⟨S2048x256, .f32⟩
  | .local _ .vmem, ⟨22, _⟩ => ⟨S2048x256, .bf16⟩
  | .local _ .vmem, ⟨23, _⟩ => ⟨S144x2048, .bf16⟩
  | .local _ .vmem, ⟨24, _⟩ => ⟨S2048x256, .f32⟩
  | .local _ .vmem, ⟨25, _⟩ => ⟨S2048x256, .f32⟩
  | .local _ .vmem, ⟨26, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_scratch12 : Ref sig .tc := ⟨.vmem, 22, rfl⟩
abbrev cc0_scratch13 : Ref sig .tc := ⟨.vmem, 23, rfl⟩
abbrev cc0_scratch14 : Ref sig .tc := ⟨.vmem, 24, rfl⟩
abbrev cc0_scratch15 : Ref sig .tc := ⟨.vmem, 25, rfl⟩
abbrev cc0_scratch16 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttentionReferenceIdeal.lean ====
abbrev S8192x2048 : Shape := ⟨2, ![8192, 2048]⟩
abbrev S8192x1024 : Shape := ⟨2, ![8192, 1024]⟩
abbrev S8192x13312 : Shape := ⟨2, ![8192, 13312]⟩
abbrev S4x2048x8x256 : Shape := ⟨4, ![4, 2048, 8, 256]⟩
abbrev S4x2048x8x128 : Shape := ⟨4, ![4, 2048, 8, 128]⟩
abbrev S4x2048x1024 : Shape := ⟨3, ![4, 2048, 1024]⟩
abbrev S2048 : Shape := ⟨1, ![2048]⟩
abbrev S4x8x2048x2048 : Shape := ⟨4, ![4, 8, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x2048x8 : Shape := ⟨3, ![4, 2048, 8]⟩
abbrev S4x2048x8x1 : Shape := ⟨4, ![4, 2048, 8, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x13312, .bf16⟩
  | .hbm, ⟨4, _⟩ => ⟨S4x2048x8x256, .bf16⟩
  | .hbm, ⟨5, _⟩ => ⟨S4x2048x8x256, .bf16⟩
  | .hbm, ⟨6, _⟩ => ⟨S4x2048x8x128, .bf16⟩
  | .hbm, ⟨7, _⟩ => ⟨S8192x1024, .bf16⟩
  | .hbm, ⟨8, _⟩ => ⟨S8192x1024, .f32⟩
  | .hbm, ⟨9, _⟩ => ⟨S4x2048x1024, .f32⟩
  | .hbm, ⟨10, _⟩ => ⟨S2048, .i32⟩
  | .hbm, ⟨11, _⟩ => ⟨S4x8x2048x2048, .f32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S_, .f32⟩
  | .hbm, ⟨19, _⟩ => ⟨S4x8x2048x2048, .i1⟩
  | .hbm, ⟨20, _⟩ => ⟨S4x8x2048x2048, .f32⟩
  | .hbm, ⟨21, _⟩ => ⟨S4x8x2048x2048, .f32⟩
  | .hbm, ⟨22, _⟩ => ⟨S_, .f32⟩
  | .hbm, ⟨23, _⟩ => ⟨S4x8x2048, .f32⟩
  | .hbm, ⟨24, _⟩ => ⟨S4x8x2048x1, .f32⟩
  | .hbm, ⟨25, _⟩ => ⟨S4x8x2048x2048, .f32⟩
  | .hbm, ⟨26, _⟩ => ⟨S4x8x2048x2048, .f32⟩
  | .hbm, ⟨27, _⟩ => ⟨S_, .f32⟩
  | .hbm, ⟨28, _⟩ => ⟨S4x8x2048x2048, .f32⟩
  | .hbm, ⟨29, _⟩ => ⟨S4x8x2048x2048, .f32⟩
  | .hbm, ⟨30, _⟩ => ⟨S4x2048x8x128, .f32⟩
  | .hbm, ⟨31, _⟩ => ⟨S4x8x128x2048, .f32⟩
  | .hbm, ⟨32, _⟩ => ⟨S4x2048x8x128, .f32⟩
  | .hbm, ⟨33, _⟩ => ⟨S_, .f32⟩
  | .hbm, ⟨34, _⟩ => ⟨S4x8x2048, .f32⟩
  | .hbm, ⟨35, _⟩ => ⟨S4x2048x8, .f32⟩
  | .hbm, ⟨36, _⟩ => ⟨S4x2048x8x1, .f32⟩
  | .hbm, ⟨37, _⟩ => ⟨S4x2048x8x128, .f32⟩
  | .hbm, ⟨38, _⟩ => ⟨S4x2048x8x128, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S_, .f32⟩
  | .hbm, ⟨43, _⟩ => ⟨S4x2048x1024, .f32⟩
  | .hbm, ⟨44, _⟩ => ⟨S4x2048x1024, .f32⟩
  | .hbm, ⟨45, _⟩ => ⟨S_, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S4x2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Proof.InProj.Frame.lean ====
/- The run of the input projection at every grid point: what the body leaves in the output block and in the scratch
   rows, the proof data, the body's obligation and the whole launch. Taken from the generated frame of this program, with
   a larger budget for the two unfolding lemmas. -/
module

public import proofs.«01_k».proof.Proof.Gen.KernelIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 4 tile its block (1 store of `S1024x1024`, checked by the kernel's evaluation: Lib/Ring.lean `Piece.tiledL`, linear in the pieces, through a loop's `@[irreducible]` trip theorem too), so they cover it. -/
theorem cover0_A_4 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1024x2048 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x2048 .bf16) (harg8 : arg8.IsWhole) (hc0 : cond0_0 i)
    (x0 : Vec F S1024x2048 .f32) (x1 : Vec F S1x2048 .f32) (x2 : Vec F S1x1024x2048 .f32) (x3 : Vec F S1x1024 .f32) (xt0 : TbBuf0 (F := F) c tbM0_0) (y : S1024x1024.Idx) :
    ∃ pc ∈ (kernelRun0_A c i arg3 harg3 arg4 harg4 arg5 harg5 arg6 harg6 arg7 harg7 arg8 harg8 hc0 x0 x1 x2 x3 xt0).1, y ∈ pc.1.set :=
  View.cover_of_tiledL (kernelRun0_A c i arg3 harg3 arg4 harg4 arg5 harg5 arg6 harg6 arg7 harg7 arg8 harg8 hc0 x0 x1 x2 x3 xt0).1 S1024x1024.size (by sl_kernel_rfl) y

/-- What case A leaves in output 4's staging buffer: its pieces read back over junk. -/
def out0_A_4 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1024x2048 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x2048 .bf16) (harg8 : arg8.IsWhole) (hc0 : cond0_0 i)
    (x0 : Vec F S1024x2048 .f32) (x1 : Vec F S1x2048 .f32) (x2 : Vec F S1x1024x2048 .f32) (x3 : Vec F S1x1024 .f32) (xt0 : TbBuf0 (F := F) c tbM0_0) : Vec F S1024x1024 .bf16 :=
  VO0_4.read (Elt F) (VO0_4.writes (Elt F) VO0_4.junk (kernelRun0_A c i arg3 harg3 arg4 harg4 arg5 harg5 arg6 harg6 arg7 harg7 arg8 harg8 hc0 x0 x1 x2 x3 xt0).1)

/-- Case A's pieces for scratch `arg8`, which the kernel carries between points, cover it: 16 pieces of `S64x2048` tiling it (Lib/Ring.lean `Piece.tiledL`). -/
theorem scover0_A_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1024x2048 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x2048 .bf16) (harg8 : arg8.IsWhole) (hc0 : cond0_0 i)
    (x0 : Vec F S1024x2048 .f32) (x1 : Vec F S1x2048 .f32) (x2 : Vec F S1x1024x2048 .f32) (x3 : Vec F S1x1024 .f32) (xt0 : TbBuf0 (F := F) c tbM0_0) (y : S1024x2048.Idx) :
    ∃ pc ∈ (kernelRun0_A c i arg3 harg3 arg4 harg4 arg5 harg5 arg6 harg6 arg7 harg7 arg8 harg8 hc0 x0 x1 x2 x3 xt0).2.1, y ∈ pc.1.set :=
  View.cover_of_tiledL (kernelRun0_A c i arg3 harg3 arg4 harg4 arg5 harg5 arg6 harg6 arg7 harg7 arg8 harg8 hc0 x0 x1 x2 x3 xt0).2.1 S64x2048.size (by sl_kernel_rfl) y

/-- What case A leaves in scratch `arg8`: its pieces read back over junk. -/
def sout0_A_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1024x2048 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x2048 .bf16) (harg8 : arg8.IsWhole) (hc0 : cond0_0 i)
    (x0 : Vec F S1024x2048 .f32) (x1 : Vec F S1x2048 .f32) (x2 : Vec F S1x1024x2048 .f32) (x3 : Vec F S1x1024 .f32) (xt0 : TbBuf0 (F := F) c tbM0_0) : Vec F S1024x2048 .bf16 :=
  VS0_0.read (Elt F) (VS0_0.writes (Elt F) VS0_0.junk (kernelRun0_A c i arg3 harg3 arg4 harg4 arg5 harg5 arg6 harg6 arg7 harg7 arg8 harg8 hc0 x0 x1 x2 x3 xt0).2.1)

/-- Case B's pieces for output 4 tile its block (1 store of `S1024x1024`, checked by the kernel's evaluation: Lib/Ring.lean `Piece.tiledL`, linear in the pieces, through a loop's `@[irreducible]` trip theorem too), so they cover it. -/
theorem cover0_B_4 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1024x2048 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x2048 .bf16) (harg8 : arg8.IsWhole) (hc0 : ¬cond0_0 i)
    (x0 : Vec F S1024x2048 .f32) (x1 : Vec F S1x2048 .f32) (x2 : Vec F S1x1024x2048 .f32) (x3 : Vec F S1x1024 .f32) (xt0 : TbBuf0 (F := F) c tbM0_0) (xs0 : Vec F S1024x2048 .bf16) (y : S1024x1024.Idx) :
    ∃ pc ∈ (kernelRun0_B c i arg3 harg3 arg4 harg4 arg5 harg5 arg6 harg6 arg7 harg7 arg8 harg8 hc0 x0 x1 x2 x3 xt0 xs0).1, y ∈ pc.1.set :=
  View.cover_of_tiledL (kernelRun0_B c i arg3 harg3 arg4 harg4 arg5 harg5 arg6 harg6 arg7 harg7 arg8 harg8 hc0 x0 x1 x2 x3 xt0 xs0).1 S1024x1024.size (by sl_kernel_rfl) y

/-- What case B leaves in output 4's staging buffer: its pieces read back over junk. -/
def out0_B_4 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1024x2048 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x2048 .bf16) (harg8 : arg8.IsWhole) (hc0 : ¬cond0_0 i)
    (x0 : Vec F S1024x2048 .f32) (x1 : Vec F S1x2048 .f32) (x2 : Vec F S1x1024x2048 .f32) (x3 : Vec F S1x1024 .f32) (xt0 : TbBuf0 (F := F) c tbM0_0) (xs0 : Vec F S1024x2048 .bf16) : Vec F S1024x1024 .bf16 :=
  VO0_4.read (Elt F) (VO0_4.writes (Elt F) VO0_4.junk (kernelRun0_B c i arg3 harg3 arg4 harg4 arg5 harg5 arg6 harg6 arg7 harg7 arg8 harg8 hc0 x0 x1 x2 x3 xt0 xs0).1)

/-- Case B stores nothing into scratch `arg8`: it holds what the point before left. -/
def sout0_B_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1024x2048 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x2048 .bf16) (harg8 : arg8.IsWhole) (hc0 : ¬cond0_0 i)
    (x0 : Vec F S1024x2048 .f32) (x1 : Vec F S1x2048 .f32) (x2 : Vec F S1x1024x2048 .f32) (x3 : Vec F S1x1024 .f32) (xt0 : TbBuf0 (F := F) c tbM0_0) (xs0 : Vec F S1024x2048 .bf16) : Vec F S1024x2048 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1024x1024 .bf16 × Vec F S1024x2048 .bf16
  | 0, hn => (out0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (tbl m 0))
  | n + 1, hn =>
    if h0 : (n + 1) % 13 = 0 then
      (out0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (tbl m 0))
    else
      (out0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (outsAt0 hO c n (Nat.lt_of_succ_lt hn)).2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (outsAt0 hO c n (Nat.lt_of_succ_lt hn)).2)

set_option maxHeartbeats 4000000 in
/-- `outsAt0` at a point of case A: that case's contents. -/
theorem outsAt0_A (hO : Ok m) (c : Dev nD) (t : Fin (cfgM m hO).N) (h0 : t.val % 13 = 0) :
    outsAt0 m hO c t.val t.isLt = (out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (iblk m hO c 0 t) (iblk m hO c 1 t) (iblk m hO c 2 t) (iblk m hO c 3 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (iblk m hO c 0 t) (iblk m hO c 1 t) (iblk m hO c 2 t) (iblk m hO c 3 t) (tbl m 0)) := by
  obtain ⟨n, hn⟩ := t
  cases n with
  | zero => exact rfl
  | succ n => exact (dif_pos h0).trans rfl

set_option maxHeartbeats 4000000 in
/-- `outsAt0` at a point of case B: that case's contents, over what the point before left. -/
theorem outsAt0_B (hO : Ok m) (c : Dev nD) (t : Fin (cfgM m hO).N) (h0 : ¬t.val % 13 = 0) :
    outsAt0 m hO c t.val t.isLt = (out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (iblk m hO c 0 t) (iblk m hO c 1 t) (iblk m hO c 2 t) (iblk m hO c 3 t) (tbl m 0) (outsAt0 m hO c (t.val - 1) (Nat.lt_of_le_of_lt (Nat.sub_le _ _) t.isLt)).2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (iblk m hO c 0 t) (iblk m hO c 1 t) (iblk m hO c 2 t) (iblk m hO c 3 t) (tbl m 0) (outsAt0 m hO c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3, after0_4]
  rw [show (dats m hO 0 c).Φ t.succ = PhiS m hO c (t.val + 1) t.isLt from rfl, PhiS_succ, PhiT0_eq]
  have hN : t.val < 104 := lt_of_lt_of_eq t.isLt (show (cfgM m hO).N = 104 from N_0)
  by_cases h0 : t.val % 13 = 0
  · by_cases hz : t.val = 0
    · rw [PhiS_castSucc m hO c t, PhiS_zero m hO c _ _ hz, PhiT0_eq, PhiA0_eq]
      rw [outsAt0_A m hO c t h0]
      unfold out0_A_4 sout0_A_0; (try dsimp only)
      iintro ⟨⟨⟨HS0, Hg⟩, HT0⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m hO c 0 t) (iblk m hO c 1 t) (iblk m hO c 2 t) (iblk m hO c 3 t) (tbl m 0)).2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HT0]; · iexact HT0
      iintro ⟨H0, H1, H2, H3, ⟨%e4, H4⟩, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _ _)
    · rw [PhiS_castSucc m hO c t, PhiS_pos m hO c _ _ hz, PhiT0_eq]
      rw [outsAt0_A m hO c t h0]
      unfold out0_A_4 sout0_A_0; (try dsimp only)
      iintro ⟨⟨⟨HS0, Hg⟩, HT0⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m hO c 0 t) (iblk m hO c 1 t) (iblk m hO c 2 t) (iblk m hO c 3 t) (tbl m 0)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HT0]; · iexact HT0
      iintro ⟨H0, H1, H2, H3, ⟨%e4, H4⟩, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _ _)
  · by_cases hz : t.val = 0
    · exfalso; have hN : t.val < 104 := lt_of_lt_of_eq t.isLt (show (cfgM m hO).N = 104 from N_0); omega
    · rw [PhiS_castSucc m hO c t, PhiS_pos m hO c _ _ hz, PhiT0_eq]
      rw [outsAt0_B m hO c t h0]
      unfold out0_B_4 sout0_B_0; (try dsimp only)
      iintro ⟨⟨⟨HS0, Hg⟩, HT0⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (iblk m hO c 0 t) (iblk m hO c 1 t) (iblk m hO c 2 t) (iblk m hO c 3 t) (tbl m 0) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HT0]; · iexact HT0
      iintro ⟨H0, H1, H2, H3, ⟨%e4, H4⟩, HS0, HT0⟩
      isplitl [HS0 Hg HT0]
      · isplitl [HS0 Hg]
        · isplitl [HS0]
          · iexact HS0
          iexact Hg
        iexact HT0
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 104 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO) (A_eq m hO) (run_main m ρ hO)

/-- From any memory with zero counters, at any float values, and for an admissible table (`Ok m`): the program runs, its arguments
    end as they began, and every semaphore counter reads zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.KernelIdeal.InProj

end
-- ==== Proof.InProj.Ok.lean ====
/- The column table that the host writes before the launch, and why its contents are admissible: each entry times the
   unit of 64 columns is a multiple of 64, and the block of 1024 weight rows that starts there lies inside the matrix. -/
module

public import proofs.«01_k».proof.Proof.InProj.Frame
public import Idealize.ShloMosaic.Lib.Pointwise

@[expose] public section

noncomputable section

namespace Cert.KernelIdeal.InProj

open Idealize.ShloMosaic Idealize.SL.Sem Cert.KernelIdeal Cert.KernelIdeal.Gen

variable {F : FTy → Type} [FloatOps F]

/-- The table as the host leaves it: the thirteen literal words, in order. -/
def table : pre0.Contents (Elt F) := fun | 0 => fun i => lit0 (S13.rowMajor i)

/-- The launch finds the literal words in the table's buffer. -/
theorem tbl_eq (m : (ℓ : Loc nD τ sig) → Buf (Elt F) ℓ) : tbl m = table := by
  funext j
  match j with
  | 0 =>
    show V m 0 main_c = _
    unfold V
    after_results
    rfl

/-- The entry of the table at grid column `n`, as a number of columns: the entry times the unit. -/
def start (n : Fin 13) : BitVec 32 := Scalar.muli (lit0 n) (64#32)

theorem start_dvd : ∀ n : Fin 13, (64 : Int) ∣ (start n).toInt := by decide

theorem start_le : ∀ n : Fin 13, (start n).toNat + 1024 ≤ 13120 := by decide

theorem col_toNat : ∀ n : Fin 13, (Scalar.indexCast (BitVec.ofNat 32 n.val)).toNat = n.val := by decide

/-- The entry read at row-major position `n` of the table. -/
theorem table_apply (n : Fin 13) (x : S13.Idx) (hx : (x 0).val = n.val) : table (F := F) 0 x = lit0 n := by
  show lit0 (S13.rowMajor x) = lit0 n
  congr 1
  apply Fin.ext
  rw [rowMajor_val1]
  exact hx

theorem mult_eq (i : grid0.Coords) : k0_mult1 (table (F := F)) i = start (i 1) := by
  have hb : ∀ a, (![(Scalar.indexCast (BitVec.ofNat 32 (i 1).val)).toNat] : Fin 1 → Nat) a + 1 ≤ S13.size a := by
    intro a
    match a with
    | 0 => show (Scalar.indexCast (BitVec.ofNat 32 (i 1).val)).toNat + 1 ≤ 13
           rw [col_toNat (i 1)]; exact (i 1).isLt
  show Scalar.muli (Pipeline.Prefetch.Contents.atD table 0 _) _ = _
  unfold start
  congr 1
  exact (dif_pos hb).trans (table_apply _ _ (col_toNat (i 1)))

theorem offset_eq (i : grid0.Coords) : cc0_transform_2 k0_off1_inb numel1_S1 (table (F := F)) i = ![0, (start (i 1)).toNat, 0] := by
  have h : (table (F := F)).at 0 (Rect.unit (s := S13) ![(Scalar.indexCast (BitVec.ofNat 32 (i 1).val)).toNat] S1.size (k0_off1_inb i)) numel1_S1 = lit0 (i 1) := by
    refine table_apply _ _ ?_
    show (Scalar.indexCast (BitVec.ofNat 32 (i 1).val)).toNat + 1 * 0 = _
    rw [col_toNat (i 1)]; rfl
  show ![_, (Scalar.muli ((table (F := F)).at 0 _ _) _).toNat, _] = _
  rw [show k0_off1_inb i = k0_off1_inb i from rfl, h]
  rfl

theorem table_ok : ok0 (table (F := F)) := by
  unfold ok0
  refine ⟨fun i => ?_, fun i => ⟨fun a => ?_, Or.inl rfl⟩⟩
  · rw [mult_eq]; exact start_dvd _
  · rw [offset_eq]
    match a with
    | 0 => exact Nat.le_refl 1
    | 1 => exact start_le _
    | 2 => exact Nat.le_refl 2048

theorem ok (m : (ℓ : Loc nD τ sig) → Buf (Elt F) ℓ) : Ok m := by
  unfold Ok; rw [tbl_eq]; exact table_ok

end Cert.KernelIdeal.InProj
-- ==== Proof.InProj.Bits.lean ====
/- The frame of the program read over bit patterns, taken from the run that is proved over any float values: the two programs have one text. -/
module

public import proofs.«01_k».proof.Defs
public import proofs.«01_k».proof.Proof.Gen.Kernel
public import proofs.«01_k».proof.Proof.InProj.Ok

@[expose] public section

set_option maxHeartbeats 4000000

noncomputable section

namespace Cert.InProj

open Idealize.ShloMosaic Idealize.SL.Sem Cert.Kernel

/-- The two programs call the same body at each grid step. -/
theorem body_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

theorem defs_eq : Cert.Kernel.defs (F := Bits) = Cert.KernelIdeal.defs (F := Bits) :=
  congrArg (Pipeline.defs (Cert.KernelIdeal.pcfgs (F := Bits))) body_eq

theorem main_eq : Cert.Kernel.main (F := Bits) = Cert.KernelIdeal.main (F := Bits) := rfl

/-- The program over bit patterns runs, leaves its arguments as they were and its counters at zero. -/
theorem frame_kernel : Cert.quiescent_Kernel := fun m ρ _ => by
  rw [defs_eq, main_eq]
  exact (θ_run Cert.KernelIdeal.defs _ _).mono (fun _ h => h) (Cert.KernelIdeal.InProj.frame (F := Bits) m ρ (Cert.KernelIdeal.InProj.ok m))

end Cert.InProj
-- ==== Proof.InProj.Body.lean ====
/- What the body of the input projection leaves at one grid point, in closed form: at the first column block the scratch
   rows hold the normalised rows of the point's block, chunk by chunk, and every point's output block is the product of
   the scratch rows with the point's weight rows, scaled column by column. -/
module

public import proofs.«01_k».proof.Proof.InProj.Ok
public import Idealize.ShloMosaic.Lib.Pipeline.ValueKit

@[expose] public section

set_option maxRecDepth 16384

noncomputable section

namespace Cert.KernelIdeal.InProj

open Cert.KernelIdeal Cert.KernelIdeal.Gen
open Idealize.ShloMosaic Idealize.ShloMosaic.TcCoe Idealize.SL.Sem

/-- The normalised rows of a block: each row times the reciprocal root of its mean square (plus the small constant),
    times the gain. -/
def rows (x0 : Vec Ideal S1024x2048 .f32) (x1 : Vec Ideal S1x2048 .f32) : Vec Ideal S1024x2048 .bf16 := fun y =>
  (x0 (ix2 (y 0) (y 1)) : EReal) * Ideal.rsqrt (Ideal.div (∑ k : Fin 2048, (x0 (ix2 (y 0) k) : EReal) * x0 (ix2 (y 0) k))
    (Ideal.ofBits .f32 1157627904#32) + Ideal.ofBits .f32 897988541#32) * x1 (ix2 0 (y 1))

theorem pay2_apply (h : Vec Ideal S1024x2048 .bf16) (w : Vec Ideal S1x1024x2048 .f32) (s : Vec Ideal S1x1024 .f32) (y : S1024x1024.Idx) :
    k0_pay2 (F := Ideal) h w s y = (∑ k : Fin 2048, h (ix2 (y 0) k) * w (ix3 0 (y 1) k)) * s (ix2 0 (y 1)) := by
  pointwise [k0_pay2]

/-- A chunk of 64 rows, normalised by itself, is those rows of the normalised block. -/
theorem chunk_rows (x0 : Vec Ideal S1024x2048 .f32) (x1 : Vec Ideal S1x2048 .f32) (k : Fin k0_t1_loop.trips)
    (inb : ∀ a, k0_off2 k a + ![64, 2048] a ≤ S1024x2048.size a) (z : S64x2048.Idx) :
    k0_pay1 (F := Ideal) (View.ld x0 (Rect.unit (k0_off2 k) ![64, 2048] inb)) x1 z
      = rows x0 x1 ((Rect.unit (s := S1024x2048) (k0_off2 k) ![64, 2048] inb).emb z) := by
  unfold rows
  pointwise [k0_pay1]
  have h1 : k0_off2 k 1 = 0 := rfl
  blk_point [h1]

section
variable (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x1024x2048 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x2048 .bf16) (harg8 : arg8.IsWhole)
    (x0 : Vec Ideal S1024x2048 .f32) (x1 : Vec Ideal S1x2048 .f32) (x2 : Vec Ideal S1x1024x2048 .f32) (x3 : Vec Ideal S1x1024 .f32) (xt0 : TbBuf0 (F := Ideal) c tbM0_0)

/-- Every piece that the first `n` chunks store agrees with the normalised block. -/
theorem pieces_rows (hc0 : cond0_0 i) : ∀ n : ℕ, n ≤ k0_t1_loop.trips →
    ∀ p ∈ pb_k0_t1 (F := Ideal) Variants.none c none i tbM0_0 htbM0_0 arg3 harg3 arg4 harg4 arg5 harg5 arg6 harg6 arg7 harg7 arg8 harg8 hc0 (harg3.unread x0) (harg4.unread x1) n,
      ∀ z : p.1.shape.Idx, p.2 z = rows x0 x1 (p.1.emb z)
  | 0, _, p, hp, _ => absurd hp List.not_mem_nil
  | n + 1, hn, p, hp, z => by
    rw [pb_k0_t1_succ _ _ _ _ _ _ _ _ _ _ _ _ _ _ _ _ _ _ _ _ _ ⟨n, hn⟩] at hp
    rcases List.mem_append.mp hp with h | h
    · have e : tripL_k0_t1 (F := Ideal) Variants.none c none i tbM0_0 htbM0_0 arg3 harg3 arg4 harg4 arg5 harg5 arg6 harg6 arg7 harg7 arg8 harg8 hc0 (harg3.unread x0) (harg4.unread x1) ⟨n, hn⟩
          = [⟨Rect.unit (k0_off2 ⟨n, hn⟩) ![64, 2048] (k0_off2_inb i ⟨n, hn⟩ hc0), k0_pay1 (View.ld x0 (Rect.unit (k0_off2 ⟨n, hn⟩) ![64, 2048] (k0_off2_inb i ⟨n, hn⟩ hc0))) x1⟩] := by
        unfold tripL_k0_t1 trip_k0_t1
        frame_out
      rw [e] at h
      obtain rfl := List.mem_singleton.mp h
      exact chunk_rows x0 x1 ⟨n, hn⟩ _ z
    · exact pieces_rows hc0 n (Nat.le_of_succ_le hn) p h z

/-- After the chunks, the scratch rows are the normalised block. -/
theorem scratch_A (hc0 : cond0_0 i) : sout0_A_0 c i arg3 harg3 arg4 harg4 arg5 harg5 arg6 harg6 arg7 harg7 arg8 harg8 hc0 x0 x1 x2 x3 xt0 = rows x0 x1 := by
  funext y
  exact View.read_writes_apply_of_pieces _ _ (rows x0 x1) _
    (pieces_rows c i arg3 harg3 arg4 harg4 arg5 harg5 arg6 harg6 arg7 harg7 arg8 harg8 x0 x1 hc0 _ (Nat.le_refl _)) y
    (scover0_A_0 c i arg3 harg3 arg4 harg4 arg5 harg5 arg6 harg6 arg7 harg7 arg8 harg8 hc0 x0 x1 x2 x3 xt0 y)

theorem out_A (hc0 : cond0_0 i) : out0_A_4 c i arg3 harg3 arg4 harg4 arg5 harg5 arg6 harg6 arg7 harg7 arg8 harg8 hc0 x0 x1 x2 x3 xt0 = k0_pay2 (rows x0 x1) x2 x3 := by
  unfold out0_A_4 kernelRun0_A
  frame_out
  refine congrArg (fun h => k0_pay2 h x2 x3) (funext fun y => ?_)
  have e : (Rect.unit ![0, 0] ![1024, 2048] inb_S1024x2048_S1024x2048_0_0 : Rect S1024x2048).toLoadRect.idx y = y := by
    funext a
    match a with
    | 0 => exact Fin.ext (by show 0 + 1 * (y 0).val = _; omega)
    | 1 => exact Fin.ext (by show 0 + 1 * (y 1).val = _; omega)
  refine (View.read_writes_apply_of_pieces _ _ (rows x0 x1) _
    (pieces_rows c i arg3 harg3 arg4 harg4 arg5 harg5 arg6 harg6 arg7 harg7 arg8 harg8 x0 x1 hc0 _ (Nat.le_refl _)) _ ?_).trans (congrArg _ e)
  exact scover0_A_0 c i arg3 harg3 arg4 harg4 arg5 harg5 arg6 harg6 arg7 harg7 arg8 harg8 hc0 x0 x1 x2 x3 xt0 _

theorem out_B (hc0 : ¬cond0_0 i) (xs0 : Vec Ideal S1024x2048 .bf16) : out0_B_4 c i arg3 harg3 arg4 harg4 arg5 harg5 arg6 harg6 arg7 harg7 arg8 harg8 hc0 x0 x1 x2 x3 xt0 xs0 = k0_pay2 xs0 x2 x3 := by
  unfold out0_B_4 kernelRun0_B
  frame_out

end

end Cert.KernelIdeal.InProj
-- ==== Proof.InProj.Blocks.lean ====
/- The blocks of the input projection's windows as parts of their arrays: which rows, columns and weight rows a grid point
   sees, and what the scratch rows and the output block hold after it. -/
module

public import proofs.«01_k».proof.Proof.InProj.Body

@[expose] public section

set_option maxRecDepth 16384

noncomputable section

namespace Cert.KernelIdeal.InProj

open Cert.KernelIdeal Cert.KernelIdeal.Gen
open Idealize.ShloMosaic Idealize.ShloMosaic.TcCoe Idealize.SL.Sem

variable (m : (ℓ : Loc nD τ sig) → Buf (Elt Ideal) ℓ) (hO : Ok m) (c : Dev nD)

/-- The index maps at grid point `t`: row block `t / 13`, column block `t % 13`. -/
theorem maps : ∀ t : Fin grid0.N, cc0_transform_0 (grid0.coords t) = ![t.val / 13, 0] ∧ cc0_transform_1 (grid0.coords t) = ![0, 0]
    ∧ cc0_transform_3 (grid0.coords t) = ![0, t.val % 13] ∧ cc0_transform_4 (grid0.coords t) = ![t.val / 13, t.val % 13]
    ∧ (grid0.coords t 1).val = t.val % 13 := by decide +kernel

theorem lt_N (t : Fin grid0.N) : t.val < 104 := Nat.lt_of_lt_of_eq t.isLt N_0

/-- The rows of the input that point `t` sees. -/
theorem block_x (t : Fin grid0.N) (y : S1024x2048.Idx) (i : S8192x2048.Idx)
    (h0 : (i 0).val = t.val / 13 * 1024 + (y 0).val) (h1 : (i 1).val = (y 1).val) :
    (iblk m hO c 0 t : Vec Ideal S1024x2048 .f32) y = (V m c main_v0 : Vec Ideal S8192x2048 .f32) i := by
  refine congrArg (V m c main_v0 : Vec Ideal S8192x2048 .f32) (funext fun (a : Fin 2) => Fin.ext ?_)
  match a with
  | 0 => show cc0_transform_0 (grid0.coords t) 0 * 1024 + 1 * (y 0).val = (i 0).val
         rw [(maps t).1, h0]; simp
  | 1 => show cc0_transform_0 (grid0.coords t) 1 * 2048 + 1 * (y 1).val = (i 1).val
         rw [(maps t).1, h1]; simp

/-- Every point sees the whole gain. -/
theorem block_g (t : Fin grid0.N) (y : S1x2048.Idx) :
    (iblk m hO c 1 t : Vec Ideal S1x2048 .f32) y = (V m c main_v10 : Vec Ideal S1x2048 .f32) y := by
  refine congrArg (V m c main_v10 : Vec Ideal S1x2048 .f32) (funext fun (a : Fin 2) => Fin.ext ?_)
  match a with
  | 0 => show cc0_transform_1 (grid0.coords t) 0 * 1 + 1 * (y 0).val = (y 0).val
         rw [(maps t).2.1]; simp
  | 1 => show cc0_transform_1 (grid0.coords t) 1 * 2048 + 1 * (y 1).val = (y 1).val
         rw [(maps t).2.1]; simp

/-- The weight rows that point `t` sees start where the table says. -/
theorem block_w (t : Fin grid0.N) (y : S1x1024x2048.Idx) (i : S1x13120x2048.Idx) (n : Fin 13) (hn : n.val = t.val % 13)
    (h1 : (i 1).val = (start n).toNat + (y 1).val) (h2 : (i 2).val = (y 2).val) :
    (iblk m hO c 2 t : Vec Ideal S1x1024x2048 .f32) y = (V m c main_v8 : Vec Ideal S1x13120x2048 .f32) i := by
  have hmap : cc0_transform_2 k0_off1_inb numel1_S1 (tbl m) (grid0.coords t) = ![0, (start n).toNat, 0] := by
    rw [tbl_eq, offset_eq]
    rw [show (grid0.coords t 1 : Fin 13) = n from Fin.ext ((maps t).2.2.2.2.trans hn.symm)]
  refine congrArg (V m c main_v8 : Vec Ideal S1x13120x2048 .f32) (funext fun (a : Fin 3) => Fin.ext ?_)
  match a with
  | 0 => show cc0_transform_2 k0_off1_inb numel1_S1 (tbl m) (grid0.coords t) 0 + 1 * (y 0).val = (i 0).val
         rw [hmap]
         have a0 : (y 0).val < 1 := (y 0).isLt
         have a1 : (i 0).val < 1 := (i 0).isLt
         show 0 + 1 * (y 0).val = _
         omega
  | 1 => show cc0_transform_2 k0_off1_inb numel1_S1 (tbl m) (grid0.coords t) 1 + 1 * (y 1).val = (i 1).val
         rw [hmap, h1]; simp
  | 2 => show cc0_transform_2 k0_off1_inb numel1_S1 (tbl m) (grid0.coords t) 2 + 1 * (y 2).val = (i 2).val
         rw [hmap, h2]; simp

/-- The scales of the columns that point `t` writes. -/
theorem block_s (t : Fin grid0.N) (y : S1x1024.Idx) (i : S1x13312.Idx) (h1 : (i 1).val = t.val % 13 * 1024 + (y 1).val) :
    (iblk m hO c 3 t : Vec Ideal S1x1024 .f32) y = (V m c main_v7 : Vec Ideal S1x13312 .f32) i := by
  refine congrArg (V m c main_v7 : Vec Ideal S1x13312 .f32) (funext fun (a : Fin 2) => Fin.ext ?_)
  match a with
  | 0 => show cc0_transform_3 (grid0.coords t) 0 * 1 + 1 * (y 0).val = (i 0).val
         rw [(maps t).2.2.1]
         have a0 : (y 0).val < 1 := (y 0).isLt
         have a1 : (i 0).val < 1 := (i 0).isLt
         show 0 * 1 + 1 * (y 0).val = _
         omega
  | 1 => show cc0_transform_3 (grid0.coords t) 1 * 1024 + 1 * (y 1).val = (i 1).val
         rw [(maps t).2.2.1, h1]; simp

/-- The block of the input changes with the row block alone. -/
theorem block_x_eq (t t' : Fin grid0.N) (h : t.val / 13 = t'.val / 13) :
    (iblk m hO c 0 t : Vec Ideal S1024x2048 .f32) = iblk m hO c 0 t' := by
  refine funext fun (y : S1024x2048.Idx) => ?_
  have ht := lt_N t'
  have hy : (y 0).val < 1024 := (y 0).isLt
  have e : ∀ s : Fin grid0.N, s.val / 13 = t'.val / 13 → (iblk m hO c 0 s : Vec Ideal S1024x2048 .f32) y
      = (V m c main_v0 : Vec Ideal S8192x2048 .f32) (ix2 ⟨t'.val / 13 * 1024 + (y 0).val, by omega⟩ (y 1)) :=
    fun s hs => block_x m hO c s y _ (by rw [hs]; rfl) rfl
  exact (e t h).trans (e t' rfl).symm

theorem block_g_eq (t t' : Fin grid0.N) :
    (iblk m hO c 1 t : Vec Ideal S1x2048 .f32) = iblk m hO c 1 t' :=
  funext fun y => (block_g m hO c t y).trans (block_g m hO c t' y).symm

/-- After every point the scratch rows are the normalised rows of its row block. -/
theorem scratch (n : ℕ) : ∀ hn : n < (cfgM m hO).N,
    (outsAt0 m hO c n hn).2 = rows (iblk m hO c 0 ⟨n, hn⟩) (iblk m hO c 1 ⟨n, hn⟩) := by
  induction n with
  | zero =>
    intro hn
    rw [outsAt0_A m hO c ⟨0, hn⟩ (Nat.zero_mod _)]
    exact scratch_A ..
  | succ n ih =>
    intro hn
    by_cases h0 : (n + 1) % 13 = 0
    · rw [outsAt0_A m hO c ⟨n + 1, hn⟩ h0]
      exact scratch_A ..
    · rw [outsAt0_B m hO c ⟨n + 1, hn⟩ h0]
      refine (ih (Nat.lt_of_succ_lt hn)).trans ?_
      rw [block_x_eq m hO c ⟨n, Nat.lt_of_succ_lt hn⟩ ⟨n + 1, hn⟩ (by show n / 13 = (n + 1) / 13; omega),
        block_g_eq m hO c ⟨n, Nat.lt_of_succ_lt hn⟩ ⟨n + 1, hn⟩]

theorem fst_of {α β : Type} {p : α × β} {x z : α} {y : β} (h : p = (x, y)) (e : x = z) : p.1 = z := by
  rw [h]; exact e

theorem snd_of {α β : Type} {p : α × β} {x : α} {y z : β} (h : p = (x, y)) (e : p.2 = z) : y = z := by
  rw [← e, h]

/-- After every point the output block is the product of its row block, normalised, with its weight rows, scaled. -/
theorem output (t : Fin (cfgM m hO).N) :
    (outsAt0 m hO c t.val t.isLt).1
      = k0_pay2 (F := Ideal) (rows (iblk m hO c 0 t) (iblk m hO c 1 t)) (iblk m hO c 2 t) (iblk m hO c 3 t) := by
  by_cases h0 : t.val % 13 = 0
  · refine fst_of (outsAt0_A m hO c t h0) ?_
    exact out_A ..
  · refine fst_of (outsAt0_B m hO c t h0) ?_
    refine (out_B ..).trans ?_
    have hs := snd_of (outsAt0_B m hO c t h0) (scratch m hO c t.val t.isLt)
    exact congrArg (fun h => k0_pay2 (F := Ideal) h (iblk m hO c 2 t) (iblk m hO c 3 t)) hs

end Cert.KernelIdeal.InProj
-- ==== Proof.InProj.Final.lean ====
/- The result of the input projection after every grid point, in closed form over the arrays that the launch finds. -/
module

public import proofs.«01_k».proof.Proof.InProj.Blocks

@[expose] public section

set_option maxRecDepth 16384

noncomputable section

namespace Cert.KernelIdeal.InProj

open Cert.KernelIdeal Cert.KernelIdeal.Gen
open Idealize.ShloMosaic Idealize.ShloMosaic.TcCoe Idealize.SL.Sem

/-- One entry of the normalised input. -/
def normed (x : Vec Ideal S8192x2048 .f32) (g : Vec Ideal S1x2048 .f32) (r : Fin 8192) (k : Fin 2048) : EReal :=
  (x (ix2 r k) : EReal) * Ideal.rsqrt (Ideal.div (∑ j : Fin 2048, (x (ix2 r j) : EReal) * x (ix2 r j))
    (Ideal.ofBits .f32 1157627904#32) + Ideal.ofBits .f32 897988541#32) * g (ix2 0 k)

/-- The weight row of a result column: the start of its block of 1024 columns, plus its place in the block. -/
def source (j : Fin 13312) : Fin 13120 :=
  ⟨(start ⟨j.val / 1024, by omega⟩).toNat + j.val % 1024, by
    have := start_le ⟨j.val / 1024, by omega⟩
    omega⟩

/-- The result: each row of the normalised input against the weight row of the column, times the column's scale. -/
def value (x : Vec Ideal S8192x2048 .f32) (g : Vec Ideal S1x2048 .f32) (w : Vec Ideal S1x13120x2048 .f32) (s : Vec Ideal S1x13312 .f32) :
    Vec Ideal S8192x13312 .bf16 := fun i =>
  (∑ k : Fin 2048, normed x g (i 0) k * (w (ix3 0 (source (i 1)) k) : EReal)) * s (ix2 0 (i 1))

variable (m : (ℓ : Loc nD τ sig) → Buf (Elt Ideal) ℓ) (hO : Ok m) (c : Dev nD)

theorem block_out (t : Fin grid0.N) (y : S1024x1024.Idx) (i : S8192x13312.Idx)
    (h0 : (i 0).val = t.val / 13 * 1024 + (y 0).val) (h1 : (i 1).val = t.val % 13 * 1024 + (y 1).val) :
    k0_pay2 (F := Ideal) (rows (iblk m hO c 0 t) (iblk m hO c 1 t)) (iblk m hO c 2 t) (iblk m hO c 3 t) y
      = value (V m c main_v0) (V m c main_v10) (V m c main_v8) (V m c main_v7) i := by
  have hy : (y 1).val < 1024 := (y 1).isLt
  have ht := lt_N t
  refine (pay2_apply _ _ _ y).trans ?_
  have hx : ∀ k : Fin 2048, (iblk m hO c 0 t : Vec Ideal S1024x2048 .f32) (ix2 (y 0) k) = (V m c main_v0 : Vec Ideal S8192x2048 .f32) (ix2 (i 0) k) :=
    fun k => block_x m hO c t _ _ h0 rfl
  have hg : ∀ k : Fin 2048, (iblk m hO c 1 t : Vec Ideal S1x2048 .f32) (ix2 0 k) = (V m c main_v10 : Vec Ideal S1x2048 .f32) (ix2 0 k) :=
    fun k => block_g m hO c t _
  have hn : (i 1).val / 1024 = t.val % 13 := by omega
  have hw : ∀ k : Fin 2048, (iblk m hO c 2 t : Vec Ideal S1x1024x2048 .f32) (ix3 0 (y 1) k)
      = (V m c main_v8 : Vec Ideal S1x13120x2048 .f32) (ix3 0 (source (i 1)) k) := fun k =>
    block_w m hO c t _ _ ⟨(i 1).val / 1024, by omega⟩ hn (by
      show (start _).toNat + (i 1).val % 1024 = (start _).toNat + (y 1).val
      omega) rfl
  have hs : (iblk m hO c 3 t : Vec Ideal S1x1024 .f32) (ix2 0 (y 1)) = (V m c main_v7 : Vec Ideal S1x13312 .f32) (ix2 0 (i 1)) :=
    block_s m hO c t _ _ h1
  have hr : ∀ k : Fin 2048, rows (iblk m hO c 0 t) (iblk m hO c 1 t) (ix2 (y 0) k) = normed (V m c main_v0) (V m c main_v10) (i 0) k := by
    intro k
    generalize iblk m hO c 0 t = x0 at hx ⊢
    generalize iblk m hO c 1 t = x1 at hg ⊢
    exact congrArg₂ (fun a b : EReal => a * b) (congrArg₂ (fun a b : EReal => a * Ideal.rsqrt (Ideal.div b _ + _)) (hx k)
      (Finset.sum_congr rfl fun j _ => congrArg (fun a : EReal => a * a) (hx j))) (hg k)
  show _ = (∑ k : Fin 2048, normed _ _ (i 0) k * _) * _
  exact congrArg₂ (fun a b : EReal => a * b) (Finset.sum_congr rfl fun k _ => congrArg₂ (fun a b : EReal => a * b) (hr k) (hw k)) hs

/-- The block of the result that point `t` writes, at an index. -/
theorem emb_out (t : Fin (cfgM m hO).N) (y : S1024x1024.Idx) (a : Fin 2) :
    ((((cfgM m hO).win 4).blk t).view.emb y a : Fin _).val = ![t.val / 13 * 1024 + (y 0).val, t.val % 13 * 1024 + (y 1).val] a := by
  match a with
  | 0 => show cc0_transform_4 (grid0.coords t) 0 * 1024 + 1 * (y 0).val = t.val / 13 * 1024 + (y 0).val
         rw [(maps t).2.2.2.1]; simp
  | 1 => show cc0_transform_4 (grid0.coords t) 1 * 1024 + 1 * (y 1).val = t.val % 13 * 1024 + (y 1).val
         rw [(maps t).2.2.2.1]; simp

theorem final :
    (dats m hO 0 c).arrAt 4 (cfgM m hO).N = value (V m c main_v0) (V m c main_v10) (V m c main_v8) (V m c main_v7) := by
  refine (dats m hO 0 c).arrAt_eq_of_emb 4 _ (fun t _ y => ?_) fun (i : S8192x13312.Idx) => ?_
  · refine Eq.trans ?_ (block_out m hO c t y _ (emb_out m hO t y 0) (emb_out m hO t y 1))
    show (dats m hO 0 c).after 4 t y = _
    rw [after0_4, output]
  · have h0 : (i 0).val < 8192 := (i 0).isLt
    have h1 : (i 1).val < 13312 := (i 1).isLt
    let t : Fin (cfgM m hO).N := ⟨(i 0).val / 1024 * 13 + (i 1).val / 1024, by
      show _ < grid0.N
      rw [N_0]; omega⟩
    refine ⟨t, flush0_4 _ t, ?_⟩
    have e : (((cfgM m hO).win 4).blk t).view.emb
        (ix2 ⟨(i 0).val % 1024, by omega⟩ ⟨(i 1).val % 1024, by omega⟩ : S1024x1024.Idx) = i := by
      refine funext fun (a : Fin 2) => Fin.ext ((emb_out m hO t _ a).trans ?_)
      match a with
      | 0 => show ((i 0).val / 1024 * 13 + (i 1).val / 1024) / 13 * 1024 + (i 0).val % 1024 = (i 0).val
             omega
      | 1 => show ((i 0).val / 1024 * 13 + (i 1).val / 1024) % 13 * 1024 + (i 1).val % 1024 = (i 1).val
             omega
    exact e ▸ View.emb_mem_set _ _

end Cert.KernelIdeal.InProj
-- ==== Proof.InProj.Host.lean ====
/- What the host prepares before the launch of the input projection, entry by entry: the rows of the input, the gain, the
   weight with its columns as rows, and the scale of each result column. -/
module

public import proofs.«01_k».proof.Proof.InProj.Final
public import Idealize.ShloMosaic.Lib.Claim
public import Idealize.ShloMosaic.Lib.Routing.OpsPair
public import Idealize.ShloMosaic.Lib.Routing.OpsSet

@[expose] public section

set_option maxRecDepth 16384

noncomputable section

namespace Cert.KernelIdeal.InProj

open Cert.KernelIdeal Cert.KernelIdeal.Gen
open Idealize.ShloMosaic Idealize.ShloMosaic.TcCoe Idealize.SL.Sem

/-- Writing one row of `M` equal entries at column `p` of a row of `N`: those columns hold the entry, the rest what they held. -/
theorem scatter_row {α : Type} {N M : ℕ} (d : ScatterDims ⟨2, ![1, N]⟩ ⟨1, ![1]⟩ ⟨2, ![1, M]⟩)
    (hs : ∀ k idx, d.start (w := 32) k idx 0 = 0 ∧ ∃ i, d.start (w := 32) k idx 1 = (idx i).toInt)
    (hw : ∀ k, d.window k 0 = (k 0).val ∧ d.window k 1 = (k 1).val)
    (x : (⟨2, ![1, N]⟩ : Shape).Idx → α) (p : ℕ) (idx : IVec ⟨1, ![1]⟩ 32) (hp : ∀ i, (idx i).toInt = p)
    (u : (⟨2, ![1, M]⟩ : Shape).Idx → α) (v : α) (hu : ∀ k, u k = v) (j : Fin N) :
    Host.scatter d (fun _ b => b) x idx u (ix2 0 j) = if p ≤ j.val ∧ j.val < p + M then v else x (ix2 0 j) := by
  have key : ∀ k, d.resultIdx? k idx = some (ix2 0 j) ↔ p + (k 1).val = j.val := by
    intro k
    have k0 : (k 0).val < 1 := (k 0).isLt
    obtain ⟨s0, i, s1⟩ := hs k idx
    refine (Routing.resultIdx?_ix2 (R := 1) (C := N) d k idx 0 j).trans ?_
    rw [s0, s1, (hw k).1, (hw k).2, hp]
    show (0 : Int) + (k 0).val = 0 ∧ _ ↔ _
    omega
  split
  · next h => exact Routing.scatter_set_hit d x idx u _ v (fun k _ => hu k) (ix2 0 ⟨j.val - p, by omega⟩) ((key _).2 (by
      show p + (j.val - p) = j.val
      omega))
  · next h => exact Routing.scatter_set_miss d x idx u _ fun k hk => h (by
      have := (key k).1 hk
      have k1 : (k 1).val < M := (k 1).isLt
      omega)

variable (m : (ℓ : Loc nD τ sig) → Buf (Elt Ideal) ℓ) (c : Dev nD)

theorem entry_x (r : Fin 8192) (k : Fin 2048) : (V m c main_v0 : Vec Ideal S8192x2048 .f32) (ix2 r k)
    = (m ((c.tc : Thread nD τ).loc main_arg0) : Vec Ideal S4x2048x2048 .f32) (ix3 ⟨r.val / 2048, by omega⟩ ⟨r.val % 2048, by omega⟩ k) := by
  entry_read
  pointwise

theorem entry_g (k : Fin 2048) : (V m c main_v10 : Vec Ideal S1x2048 .f32) (ix2 0 k)
    = (m ((c.tc : Thread nD τ).loc main_arg1) : Vec Ideal S1x2048 .f32) (ix2 0 k) := by
  entry_read
  pointwise

theorem entry_w (j : Fin 13120) (k : Fin 2048) : (V m c main_v8 : Vec Ideal S1x13120x2048 .f32) (ix3 0 j k)
    = (m ((c.tc : Thread nD τ).loc main_arg2) : Vec Ideal S1x2048x13120 .f32) (ix3 0 k j) := by
  entry_read
  pointwise

/-- The scale of a result column. -/
def scale (j : Fin 13312) : EReal :=
  if 12288 ≤ j.val ∧ j.val < 12288 + 512 then Ideal.ofBits .f32 0x3E0293EE#32
  else if 6144 ≤ j.val ∧ j.val < 6144 + 1024 then Ideal.ofBits .f32 0x3E0293EE#32 else Ideal.ofBits .f32 0x3F800000#32

theorem entry_s (j : Fin 13312) : (V m c main_v7 : Vec Ideal S1x13312 .f32) (ix2 0 j) = scale j := by
  entry_read
  refine (scatter_row (N := 13312) (M := 512) scatter_S1x13312_S1_S1x512_01_n_1_0 (fun _ _ => ⟨rfl, _, rfl⟩) (fun _ => ⟨rfl, rfl⟩)
    _ 12288 _ (fun _ => rfl) _ (Ideal.ofBits .f32 0x3E0293EE#32) (fun _ => rfl) j).trans ?_
  unfold scale
  refine congrArg (ite _ _) ?_
  refine (scatter_row (N := 13312) (M := 1024) scatter_S1x13312_S1_S1x1024_01_n_1_0 (fun _ _ => ⟨rfl, _, rfl⟩) (fun _ => ⟨rfl, rfl⟩)
    _ 6144 _ (fun _ => rfl) _ (Ideal.ofBits .f32 0x3E0293EE#32) (fun _ => rfl) j).trans rfl

end Cert.KernelIdeal.InProj
-- ==== Proof.InProj.Result.lean ====
/- The run of the input projection, in closed form over its arguments. -/
module

public import proofs.«01_k».proof.Proof.InProj.Host
public import proofs.«01_k».proof.Proof.Gen.ReferenceIdeal
public import proofs.«01_k».proof.Defs

@[expose] public section

set_option maxRecDepth 16384

noncomputable section

namespace Cert.InProj

open Idealize.ShloMosaic Idealize.ShloMosaic.TcCoe Idealize.SL.Sem Cert.KernelIdeal Cert.KernelIdeal.Gen Cert.KernelIdeal.InProj

/-- The result over the arguments. -/
def result (x : Vec Ideal S4x2048x2048 .f32) (g : Vec Ideal S1x2048 .f32) (w : Vec Ideal S1x2048x13120 .f32) :
    Vec Ideal S8192x13312 .bf16 := fun i =>
  (∑ k : Fin 2048, (x (ix3 ⟨(i 0).val / 2048, by have h : (i 0).val < 8192 := (i 0).isLt; omega⟩ ⟨(i 0).val % 2048, by omega⟩ k) : EReal)
      * Ideal.rsqrt (Ideal.div (∑ j : Fin 2048, (x (ix3 ⟨(i 0).val / 2048, by have h : (i 0).val < 8192 := (i 0).isLt; omega⟩ ⟨(i 0).val % 2048, by omega⟩ j) : EReal)
          * x (ix3 ⟨(i 0).val / 2048, by have h : (i 0).val < 8192 := (i 0).isLt; omega⟩ ⟨(i 0).val % 2048, by omega⟩ j)) (Ideal.ofBits .f32 1157627904#32) + Ideal.ofBits .f32 897988541#32)
      * g (ix2 0 k) * (w (ix3 0 k (source (i 1))) : EReal)) * scale (i 1)

theorem value_of {x : Vec Ideal S8192x2048 .f32} {g G : Vec Ideal S1x2048 .f32} {w : Vec Ideal S1x13120x2048 .f32} {s : Vec Ideal S1x13312 .f32}
    {X : Vec Ideal S4x2048x2048 .f32} {W : Vec Ideal S1x2048x13120 .f32}
    (hx : ∀ (r : Fin 8192) (k : Fin 2048), x (ix2 r k) = X (ix3 ⟨r.val / 2048, by omega⟩ ⟨r.val % 2048, by omega⟩ k))
    (hg : ∀ k : Fin 2048, g (ix2 0 k) = G (ix2 0 k)) (hw : ∀ (j : Fin 13120) (k : Fin 2048), w (ix3 0 j k) = W (ix3 0 k j))
    (hs : ∀ j : Fin 13312, s (ix2 0 j) = scale j) : value x g w s = result X G W := by
  funext i
  unfold value normed result
  have hx' := hx (i 0)
  have hs' := hs (i 1)
  simp only [hx', hg, hw, hs']

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 4).trans ((final m (ok m) c).trans
      (value_of (entry_x m c) (entry_g m c) (entry_w m c) (entry_s m c))), h.2 c⟩)
    (θ_run_and (run_main m ρ (ok m)) (unchanged m ρ (ok m)))

end Cert.InProj
-- ==== Proof.InProj.Reference.lean ====
/- The reference of the input projection, entry by entry. -/
module

public import proofs.«01_k».proof.Proof.InProj.Result
public import Idealize.ShloMosaic.Lib.StableHlo.ReadAt

@[expose] public section

set_option maxRecDepth 16384

noncomputable section

namespace Cert.InProj

open Idealize.ShloMosaic Idealize.ShloMosaic.TcCoe Idealize.SL.Sem Cert.ReferenceIdeal Cert.ReferenceIdeal.Facts₀
open Cert.KernelIdeal.InProj (source scale start)

variable (m : (ℓ : Loc nD τ sig) → Buf (Elt Ideal) ℓ) (ρ : Dev nD → PrngReg)

/-- The columns of the pieces, side by side. -/
def layout (x0 : Vec Ideal S4x2048x2048 .f32) (x1 : Vec Ideal S4x2048x2048 .f32) (x2 : Vec Ideal S4x2048x2048 .f32) (x3 : Vec Ideal S4x2048x1024 .f32) (x4 : Vec Ideal S4x2048x1024 .f32) (x5 : Vec Ideal S4x2048x1024 .f32) (x6 : Vec Ideal S4x2048x1024 .f32) (x7 : Vec Ideal S4x2048x1024 .f32) (x8 : Vec Ideal S4x2048x512 .f32) (x9 : Vec Ideal S4x2048x256 .f32) (x10 : Vec Ideal S4x2048x64 .f32) (x11 : Vec Ideal S4x2048x192 .f32) (x12 : Vec Ideal S4x2048x512 .f32) (x13 : Vec Ideal S4x2048x512 .f32) : Vec Ideal S4x2048x13312 .f32 :=
  concatenate S4x2048x13312 2 [⟨S4x2048x2048, x0⟩, ⟨S4x2048x2048, x1⟩, ⟨S4x2048x2048, x2⟩, ⟨S4x2048x1024, x3⟩, ⟨S4x2048x1024, x4⟩, ⟨S4x2048x1024, x5⟩, ⟨S4x2048x1024, x6⟩, ⟨S4x2048x1024, x7⟩, ⟨S4x2048x512, x8⟩, ⟨S4x2048x256, x9⟩, ⟨S4x2048x64, x10⟩, ⟨S4x2048x192, x11⟩, ⟨S4x2048x512, x12⟩, ⟨S4x2048x512, x13⟩] concatenates_S4x2048x2048_S4x2048x2048_S4x2048x2048_S4x2048x1024_S4x2048x1024_S4x2048x1024_S4x2048x1024_S4x2048x1024_S4x2048x512_S4x2048x256_S4x2048x64_S4x2048x192_S4x2048x512_S4x2048x512_S4x2048x13312_d2

/-- The first weight row of each column tile. -/
theorem start_val : ∀ n : Fin 13, (start n).toNat = if n.val < 6 then 6976 + 1024 * n.val else if n.val < 10 then 1024 * (n.val - 6)
    else if n.val = 10 then 4928 else if n.val = 11 then 4096 else 5952 := by decide

/-- The weight row of each result column. -/
theorem source_val (j : Fin 13312) : (source j).val = if j.val < 6144 then j.val + 6976 else if j.val < 10240 then j.val - 6144
    else if j.val < 11264 then j.val - 5312 else if j.val < 12288 then j.val - 7168 else j.val - 6336 := by
  show (start ⟨j.val / 1024, _⟩).toNat + j.val % 1024 = _
  rw [start_val]
  have := j.isLt
  dsimp only
  split_ifs <;> omega

theorem scale_in (j : Fin 13312) (h : (12288 ≤ j.val ∧ j.val < 12800) ∨ (6144 ≤ j.val ∧ j.val < 7168)) :
    scale j = Ideal.ofBits .f32 1040356334#32 := by
  unfold scale
  split_ifs
  · rfl
  · rfl
  · omega

theorem scale_out (j : Fin 13312) (h : ¬((12288 ≤ j.val ∧ j.val < 12800) ∨ (6144 ≤ j.val ∧ j.val < 7168))) : scale j = 1 := by
  unfold scale
  rw [if_neg (by omega), if_neg (by omega)]
  exact Ideal.ofBits_one_f32

/-- An index into the product's columns, with the column named. -/
theorem plain (d : Vec Ideal S4x2048x13120 .f32) (b : Fin 4) (t : Fin 2048) (j : Fin 13312) (i : S4x2048x13120.Idx)
    (hi : (i 2).val = (source j).val) (h0 : (i 0).val = b.val) (h1 : (i 1).val = t.val) (hs : scale j = 1) :
    d i = d (ix3 b t (source j)) * scale j := by
  rw [hs, mul_one]
  refine congrArg d (funext fun (a : Fin 3) => ?_)
  match a with
  | 0 => exact Fin.ext h0
  | 1 => exact Fin.ext h1
  | 2 => exact Fin.ext hi

theorem scaled (d : Vec Ideal S4x2048x13120 .f32) (b : Fin 4) (t : Fin 2048) (j : Fin 13312) (i : S4x2048x13120.Idx)
    (hi : (i 2).val = (source j).val) (h0 : (i 0).val = b.val) (h1 : (i 1).val = t.val) (hs : scale j = Ideal.ofBits .f32 1040356334#32) :
    d i * Ideal.ofBits .f32 1040356334#32 = d (ix3 b t (source j)) * scale j := by
  rw [hs]
  refine congrArg (fun i => d i * _) (funext fun (a : Fin 3) => ?_)
  match a with
  | 0 => exact Fin.ext h0
  | 1 => exact Fin.ext h1
  | 2 => exact Fin.ext hi

/-- A column that lies in piece `k` of the laid-out columns is that piece's column. -/
theorem layout_piece {xs : List ((s : Shape) × (s.Idx → EReal))} {h : Shape.Concatenates (xs.map (·.1)) S4x2048x13312 2}
    (k : ℕ) (hk : k < xs.length) {w : ℕ} {x : (⟨3, ![4, 2048, w]⟩ : Shape).Idx → EReal} (hx : xs[k] = ⟨⟨3, ![4, 2048, w]⟩, x⟩) (pre : ℕ)
    (hpre : (((xs.take k).map (·.1)).map fun s => if h : s.rank = 3 then s.size ((2 : Fin 3).cast h.symm) else 0).sum = pre)
    (b : Fin 4) (t : Fin 2048) (j : Fin 13312) (h1 : pre ≤ j.val) (h2 : j.val < pre + w) {v : EReal}
    (hv : x (ix3 b t ⟨j.val - pre, by omega⟩) = v) : concatenate S4x2048x13312 2 xs h (ix3 b t j) = v := by
  refine (concatenate_apply_piece (t := S4x2048x13312) 2 xs h (ix3 b t j) k hk _ x hx rfl pre hpre (ix3 b t ⟨j.val - pre, by omega⟩) ?_ ?_).trans hv
  · intro a ha
    match a with
    | 0 => rfl
    | 1 => rfl
    | 2 => exact absurd rfl ha
  · show pre + (j.val - pre) = j.val
    omega

set_option maxHeartbeats 4000000 in
set_option maxRecDepth 10000 in
/-- Every laid-out column is a column of the product, times the column's scale. -/
theorem layout_apply (d : Vec Ideal S4x2048x13120 .f32) (b : Fin 4) (t : Fin 2048) (j : Fin 13312) :
    layout (extractStridedSlice S4x2048x2048 ![0, 0, 6976] d slices_S4x2048x13120_S4x2048x2048_0_0_6976)
      (extractStridedSlice S4x2048x2048 ![0, 0, 9024] d slices_S4x2048x13120_S4x2048x2048_0_0_9024)
      (extractStridedSlice S4x2048x2048 ![0, 0, 11072] d slices_S4x2048x13120_S4x2048x2048_0_0_11072)
      (mulf (F := Ideal) (extractStridedSlice S4x2048x1024 ![0, 0, 0] d slices_S4x2048x13120_S4x2048x1024_0_0_0) (broadcastInDim S4x2048x1024 ![] bcast_S_S4x2048x1024 (constant S_ .f32 1040356334#32)))
      (extractStridedSlice S4x2048x1024 ![0, 0, 1024] d slices_S4x2048x13120_S4x2048x1024_0_0_1024)
      (extractStridedSlice S4x2048x1024 ![0, 0, 2048] d slices_S4x2048x13120_S4x2048x1024_0_0_2048)
      (extractStridedSlice S4x2048x1024 ![0, 0, 3072] d slices_S4x2048x13120_S4x2048x1024_0_0_3072)
      (extractStridedSlice S4x2048x1024 ![0, 0, 4928] d slices_S4x2048x13120_S4x2048x1024_0_0_4928)
      (extractStridedSlice S4x2048x512 ![0, 0, 4096] d slices_S4x2048x13120_S4x2048x512_0_0_4096)
      (extractStridedSlice S4x2048x256 ![0, 0, 4608] d slices_S4x2048x13120_S4x2048x256_0_0_4608)
      (extractStridedSlice S4x2048x64 ![0, 0, 4864] d slices_S4x2048x13120_S4x2048x64_0_0_4864)
      (extractStridedSlice S4x2048x192 ![0, 0, 0] (extractStridedSlice S4x2048x1024 ![0, 0, 4928] d slices_S4x2048x13120_S4x2048x1024_0_0_4928) slices_S4x2048x1024_S4x2048x192_0_0_0)
      (mulf (F := Ideal) (extractStridedSlice S4x2048x512 ![0, 0, 5952] d slices_S4x2048x13120_S4x2048x512_0_0_5952) (broadcastInDim S4x2048x512 ![] bcast_S_S4x2048x512 (constant S_ .f32 1040356334#32)))
      (extractStridedSlice S4x2048x512 ![0, 0, 6464] d slices_S4x2048x13120_S4x2048x512_0_0_6464) (ix3 b t j)
      = d (ix3 b t (source j)) * scale j := by
  have hj := j.isLt
  unfold layout
  rcases (by omega : (0 ≤ j.val ∧ j.val < 2048) ∨ (2048 ≤ j.val ∧ j.val < 4096) ∨ (4096 ≤ j.val ∧ j.val < 6144) ∨ (6144 ≤ j.val ∧ j.val < 7168) ∨ (7168 ≤ j.val ∧ j.val < 8192) ∨ (8192 ≤ j.val ∧ j.val < 9216) ∨ (9216 ≤ j.val ∧ j.val < 10240) ∨ (10240 ≤ j.val ∧ j.val < 11264) ∨ (11264 ≤ j.val ∧ j.val < 11776) ∨ (11776 ≤ j.val ∧ j.val < 12032) ∨ (12032 ≤ j.val ∧ j.val < 12096) ∨ (12096 ≤ j.val ∧ j.val < 12288) ∨ (12288 ≤ j.val ∧ j.val < 12800) ∨ (12800 ≤ j.val ∧ j.val < 13312)) with h | h | h | h | h | h | h | h | h | h | h | h | h | h
  · refine layout_piece 0 (by simp) rfl 0 (by simp) b t j h.1 h.2 ?_
    exact plain d b t j _ (by show 6976 + (j.val - 0) = _; rw [source_val]; split_ifs <;> omega) (Nat.zero_add _) (Nat.zero_add _) (scale_out j (by omega))
  · refine layout_piece 1 (by simp) rfl 2048 (by simp) b t j h.1 h.2 ?_
    exact plain d b t j _ (by show 9024 + (j.val - 2048) = _; rw [source_val]; split_ifs <;> omega) (Nat.zero_add _) (Nat.zero_add _) (scale_out j (by omega))
  · refine layout_piece 2 (by simp) rfl 4096 (by simp) b t j h.1 h.2 ?_
    exact plain d b t j _ (by show 11072 + (j.val - 4096) = _; rw [source_val]; split_ifs <;> omega) (Nat.zero_add _) (Nat.zero_add _) (scale_out j (by omega))
  · refine layout_piece 3 (by simp) rfl 6144 (by simp) b t j h.1 h.2 ?_
    exact scaled d b t j _ (by show 0 + (j.val - 6144) = _; rw [source_val]; split_ifs <;> omega) (Nat.zero_add _) (Nat.zero_add _) (scale_in j (by omega))
  · refine layout_piece 4 (by simp) rfl 7168 (by simp) b t j h.1 h.2 ?_
    exact plain d b t j _ (by show 1024 + (j.val - 7168) = _; rw [source_val]; split_ifs <;> omega) (Nat.zero_add _) (Nat.zero_add _) (scale_out j (by omega))
  · refine layout_piece 5 (by simp) rfl 8192 (by simp) b t j h.1 h.2 ?_
    exact plain d b t j _ (by show 2048 + (j.val - 8192) = _; rw [source_val]; split_ifs <;> omega) (Nat.zero_add _) (Nat.zero_add _) (scale_out j (by omega))
  · refine layout_piece 6 (by simp) rfl 9216 (by simp) b t j h.1 h.2 ?_
    exact plain d b t j _ (by show 3072 + (j.val - 9216) = _; rw [source_val]; split_ifs <;> omega) (Nat.zero_add _) (Nat.zero_add _) (scale_out j (by omega))
  · refine layout_piece 7 (by simp) rfl 10240 (by simp) b t j h.1 h.2 ?_
    exact plain d b t j _ (by show 4928 + (j.val - 10240) = _; rw [source_val]; split_ifs <;> omega) (Nat.zero_add _) (Nat.zero_add _) (scale_out j (by omega))
  · refine layout_piece 8 (by simp) rfl 11264 (by simp) b t j h.1 h.2 ?_
    exact plain d b t j _ (by show 4096 + (j.val - 11264) = _; rw [source_val]; split_ifs <;> omega) (Nat.zero_add _) (Nat.zero_add _) (scale_out j (by omega))
  · refine layout_piece 9 (by simp) rfl 11776 (by simp) b t j h.1 h.2 ?_
    exact plain d b t j _ (by show 4608 + (j.val - 11776) = _; rw [source_val]; split_ifs <;> omega) (Nat.zero_add _) (Nat.zero_add _) (scale_out j (by omega))
  · refine layout_piece 10 (by simp) rfl 12032 (by simp) b t j h.1 h.2 ?_
    exact plain d b t j _ (by show 4864 + (j.val - 12032) = _; rw [source_val]; split_ifs <;> omega) (Nat.zero_add _) (Nat.zero_add _) (scale_out j (by omega))
  · refine layout_piece 11 (by simp) rfl 12096 (by simp) b t j h.1 h.2 ?_
    exact plain d b t j _ (by show 4928 + (0 + (j.val - 12096)) = _; rw [source_val]; split_ifs <;> omega) (by show 0 + (0 + b.val) = b.val; omega) (by show 0 + (0 + t.val) = t.val; omega) (scale_out j (by omega))
  · refine layout_piece 12 (by simp) rfl 12288 (by simp) b t j h.1 h.2 ?_
    exact scaled d b t j _ (by show 5952 + (j.val - 12288) = _; rw [source_val]; split_ifs <;> omega) (Nat.zero_add _) (Nat.zero_add _) (scale_in j (by omega))
  · refine layout_piece 13 (by simp) rfl 12800 (by simp) b t j h.1 h.2 ?_
    exact plain d b t j _ (by show 6464 + (j.val - 12800) = _; rw [source_val]; split_ifs <;> omega) (Nat.zero_add _) (Nat.zero_add _) (scale_out j (by omega))

/-- The reference runs to the result of the input projection, its arguments unchanged. -/
theorem run_reference :
    θ_run defs (onTc (τ := τ) (main (F := Ideal))) ⟨m, fun _ => 0, ρ⟩ fun r => ∀ c : Dev nD,
      r.2.mem ((c.tc : Thread nD τ).loc main_v36) = Cert.InProj.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hrun := StableHlo.run_hlo (defs (F := Ideal)) (main (F := Ideal)) (by hlo_seq) (by decide) (by decide) (by simp)
      (by intro _ h; (repeat (cases h with | head => rfl | tail _ h => ?_)); exact nomatch h) m ρ
  refine θ_run_mono hrun ?_
  intro r hr c
  refine ⟨(hr c _).trans ?_, (hr c _).trans ?_, (hr c _).trans ?_, (hr c _).trans ?_⟩
  · funext i
    after_reads_simp
    generalize hW : StableHlo.upto _ _ _ = W
    change (shapeCast S8192x13312 (layout (W (Proc.devRef .tc main_v26)) (W (Proc.devRef .tc main_v27)) (W (Proc.devRef .tc main_v28)) (W (Proc.devRef .tc main_v30)) (W (Proc.devRef .tc main_v17)) (W (Proc.devRef .tc main_v18)) (W (Proc.devRef .tc main_v19)) (W (Proc.devRef .tc main_v23)) (W (Proc.devRef .tc main_v20)) (W (Proc.devRef .tc main_v21)) (W (Proc.devRef .tc main_v22)) (W (Proc.devRef .tc main_v31)) (W (Proc.devRef .tc main_v33)) (W (Proc.devRef .tc main_v25))) shapeCasts_S4x2048x13312_S8192x13312 : Vec Ideal S8192x13312 .f32) i = _
    subst hW
    after_reads_simp
    generalize hd : Host.dotGeneral (F := Ideal) _ _ _ _ = d
    clear hr hrun
    clean_types
    pointwise
    refine (layout_apply d _ _ _).trans ?_
    unfold Cert.InProj.result
    refine congrArg (· * scale (i 1)) ?_
    rw [← hd]
    pointwise
  · after_reads_simp; first | done | rfl
  · after_reads_simp; first | done | rfl
  · after_reads_simp; first | done | rfl

end Cert.InProj
-- ==== Proof.Merge.Row.lean ====
/- One row of the merge: the three gated branch products, their sum through the output projection, the residual, and the
   final normalisation, in closed form; and what the kernel's body leaves in its output block, row by row. -/
module

public import proofs.«01_k».proof.Proof.Gen.MergeIdeal.Value
public import Idealize.ShloMosaic.Lib.Pipeline.ValueKit

@[expose] public section

set_option maxRecDepth 16384

noncomputable section

namespace Cert.Merge

open Cert.MergeIdeal Cert.MergeIdeal.Gen
open Idealize.ShloMosaic Idealize.ShloMosaic.TcCoe Idealize.SL.Sem

/-- One branch's share of a merged column: the branch output against its projection, times the sigmoid of the logit. -/
def branch {K : ℕ} (g : Fin K → EReal) (w : Fin K → Fin 2048 → EReal) (l : EReal) (j : Fin 2048) : EReal :=
  Ideal.div 1 (1 + Ideal.exp (-l)) * ∑ k, g k * w k j

/-- The residual row: the input plus the merged branches through the output projection. -/
def residual (ga gb : Fin 1024 → EReal) (gm : Fin 512 → EReal) (l : Fin 6144 → EReal) (x : Fin 2048 → EReal)
    (wa wb : Fin 1024 → Fin 2048 → EReal) (wm : Fin 512 → Fin 2048 → EReal) (wo : Fin 2048 → Fin 2048 → EReal) (n : Fin 2048) : EReal :=
  x n + ∑ j : Fin 2048, (branch ga wa (l ⟨j.val, by omega⟩) j + branch gb wb (l ⟨2048 + j.val, by omega⟩) j
    + branch gm wm (l ⟨4096 + j.val, by omega⟩) j) * wo j n

/-- A row divided by its root mean square (plus the small constant), times the gain. -/
def normalised (v g : Fin 2048 → EReal) (n : Fin 2048) : EReal :=
  v n * Ideal.rsqrt (Ideal.div (∑ k, v k * v k) (Ideal.ofBits .f32 1157627904#32) + Ideal.ofBits .f32 897988541#32) * g n

/-- Dividing a product by one plus the exponential is multiplying it by the sigmoid. -/
theorem div_sigmoid (p l : EReal) : Ideal.div p (1 + Ideal.exp (-l)) = Ideal.div 1 (1 + Ideal.exp (-l)) * p := by
  have h : (1 + Ideal.exp (-l) : EReal) ≠ 0 := by
    have h0 : (0 : EReal) ≤ Ideal.exp (-l) := by
      generalize -l = e
      induction e using EReal.rec with
      | bot => exact le_rfl
      | top => exact le_top
      | coe r => exact EReal.coe_nonneg.2 (Real.exp_pos r).le
    exact (lt_of_lt_of_le zero_lt_one (le_add_of_nonneg_right h0)).ne'
  unfold Ideal.div
  rw [if_neg h, if_neg h, one_mul, mul_comm]

section
variable (v0 v13 v27 : Vec Ideal S256x2048 .bf16) (x0 x1 : Vec Ideal S256x1024 .bf16) (x2 : Vec Ideal S256x512 .bf16) (x4 : Vec Ideal S256x2048 .f32)
  (x5 x6 : Vec Ideal S1024x2048 .bf16) (x7 : Vec Ideal S512x2048 .bf16) (x8 : Vec Ideal S2048x2048 .bf16) (x9 : Vec Ideal S1x2048 .f32)

theorem pay2_apply (y : S256x2048.Idx) : k0_pay2 (F := Ideal) v0 x0 x5 v13 x1 x6 y
    = branch (fun k => x0 (ix2 (y 0) k)) (fun k j => x5 (ix2 k j)) (v0 y) (y 1)
      + branch (fun k => x1 (ix2 (y 0) k)) (fun k j => x6 (ix2 k j)) (v13 y) (y 1) := by
  unfold branch
  rw [← div_sigmoid, ← div_sigmoid]
  pointwise [k0_pay2]
  simp only [zero_sub]

theorem pay4_apply (y : S256x2048.Idx) : k0_pay4 (F := Ideal) x2 x7 y = ∑ k : Fin 512, x2 (ix2 (y 0) k) * x7 (ix2 k (y 1)) := by
  pointwise [k0_pay4]

theorem pay1_apply (a p : Vec Ideal S256x2048 .f32) (y : S256x2048.Idx) : k0_pay1 (F := Ideal) a (k0_pay3 v27) p x4 x8 x9 y
    = normalised (fun n => x4 (ix2 (y 0) n) + ∑ j : Fin 2048, (a (ix2 (y 0) j) + Ideal.div (p (ix2 (y 0) j)) (1 + Ideal.exp (-(v27 (ix2 (y 0) j))))) * x8 (ix2 j n))
        (fun n => x9 (ix2 0 n)) (y 1) := by
  unfold normalised
  pointwise [k0_pay1, k0_pay3]
  simp only [zero_sub]

end

/-- What the body leaves in its output block: row by row, the normalised residual of that row's inputs. -/
theorem block (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x512 .bf16) (harg3 : arg3.IsWhole) (arg4 : Memref sig .tc .vmem S256x6144 .bf16) (harg4 : arg4.IsWhole) (arg5 : Memref sig .tc .vmem S256x2048 .f32) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S512x2048 .bf16) (harg8 : arg8.IsWhole) (arg9 : Memref sig .tc .vmem S2048x2048 .bf16) (harg9 : arg9.IsWhole) (arg10 : Memref sig .tc .vmem S1x2048 .f32) (harg10 : arg10.IsWhole) (arg11 : Memref sig .tc .vmem S256x2048 .f32) (harg11 : arg11.IsWhole)
    (x0 x1 : Vec Ideal S256x1024 .bf16) (x2 : Vec Ideal S256x512 .bf16) (x3 : Vec Ideal S256x6144 .bf16) (x4 : Vec Ideal S256x2048 .f32) (x5 x6 : Vec Ideal S1024x2048 .bf16) (x7 : Vec Ideal S512x2048 .bf16) (x8 : Vec Ideal S2048x2048 .bf16) (x9 : Vec Ideal S1x2048 .f32) (y : S256x2048.Idx) :
    out0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9 y
      = normalised (residual (fun k => x0 (ix2 (y 0) k)) (fun k => x1 (ix2 (y 0) k)) (fun k => x2 (ix2 (y 0) k)) (fun k => x3 (ix2 (y 0) k)) (fun n => x4 (ix2 (y 0) n))
          (fun k j => x5 (ix2 k j)) (fun k j => x6 (ix2 k j)) (fun k j => x7 (ix2 k j)) (fun j n => x8 (ix2 j n))) (fun n => x9 (ix2 0 n)) (y 1) := by
  have h : out0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9
      = k0_pay1 (k0_pay2 (View.ld x3 (Rect.unit ![0, 0] S256x2048.size inb_S256x6144_S256x2048_0_0)) x0 x5 (View.ld x3 (Rect.unit ![0, 2048] S256x2048.size inb_S256x6144_S256x2048_0_2048)) x1 x6)
          (k0_pay3 (View.ld x3 (Rect.unit ![0, 4096] S256x2048.size inb_S256x6144_S256x2048_0_4096))) (k0_pay4 x2 x7) x4 x8 x9 := by
    unfold out0_A_10 kernelRun0_A
    frame_out
  rw [h, pay1_apply]
  refine congrArg (fun v => normalised v _ (y 1)) (funext fun n => ?_)
  unfold residual
  refine congrArg (_ + ·) (Finset.sum_congr rfl fun j _ => congrArg (· * _) ?_)
  rw [pay2_apply, pay4_apply, div_sigmoid]
  have e (o : ℕ) (ho) (k : Fin 6144) (hk : k.val = o + j.val) :
      (View.ld x3 (Rect.unit ![0, o] S256x2048.size ho) : Vec Ideal S256x2048 .bf16) (ix2 (y 0) j) = x3 (ix2 (y 0) k) := by
    refine congrArg x3 (funext fun (a : Fin 2) => Fin.ext ?_)
    match a with
    | 0 => show 0 + 1 * (y 0).val = (y 0).val
           omega
    | 1 => show o + 1 * j.val = k.val
           omega
  rw [e 0 _ ⟨j.val, by omega⟩ (Nat.zero_add _).symm, e 2048 _ ⟨2048 + j.val, by omega⟩ rfl, e 4096 _ ⟨4096 + j.val, by omega⟩ rfl]
  rfl

end Cert.Merge
-- ==== Proof.Merge.Blocks.lean ====
/- The blocks of the merge's windows as parts of its arguments, and its result after every grid point in closed form. -/
module

public import proofs.«01_k».proof.Proof.Merge.Row
public import Idealize.ShloMosaic.Lib.Claim

@[expose] public section

set_option maxRecDepth 16384

noncomputable section

namespace Cert.Merge

open Cert.MergeIdeal Cert.MergeIdeal.Gen
open Idealize.ShloMosaic Idealize.ShloMosaic.TcCoe Idealize.SL.Sem

/-- The batch of a row of the result. -/
def batch (r : Fin 8192) : Fin 4 := ⟨r.val / 2048, by omega⟩

/-- The place in its batch of a row of the result. -/
def place (r : Fin 8192) : Fin 2048 := ⟨r.val % 2048, by omega⟩

/-- The result over the arguments. -/
def result (ga gb : Vec Ideal S4x2048x1024 .bf16) (gm : Vec Ideal S4x2048x512 .bf16) (u : Vec Ideal S8192x13312 .bf16) (x : Vec Ideal S4x2048x2048 .f32)
    (wa wb : Vec Ideal S1x1024x2048 .f32) (wm : Vec Ideal S1x512x2048 .f32) (wo : Vec Ideal S1x2048x2048 .f32) (g : Vec Ideal S2048 .f32) :
    Vec Ideal S8192x2048 .f32 := fun i =>
  normalised (residual (fun k => ga (ix3 (batch (i 0)) (place (i 0)) k)) (fun k => gb (ix3 (batch (i 0)) (place (i 0)) k)) (fun k => gm (ix3 (batch (i 0)) (place (i 0)) k))
    (fun k => u (ix2 (i 0) ⟨k.val, by omega⟩)) (fun n => x (ix3 (batch (i 0)) (place (i 0)) n))
    (fun k j => wa (ix3 0 k j)) (fun k j => wb (ix3 0 k j)) (fun k j => wm (ix3 0 k j)) (fun j n => wo (ix3 0 j n))) (fun n => g (ix1 n)) (i 1)

variable (m : (ℓ : Loc nD τ sig) → Buf (Elt Ideal) ℓ) (c : Dev nD)

/-- The index maps at grid point `t`: row block `t`, or the whole array. -/
theorem maps : ∀ t : Fin grid0.N, cc0_transform_0 (grid0.coords t) = ![t.val, 0] ∧ cc0_transform_5 (grid0.coords t) = ![0, 0] := by decide +kernel

theorem lt_N (t : Fin grid0.N) : t.val < 32 := Nat.lt_of_lt_of_eq t.isLt N_0

/-- An index of two axes is the pair of its coordinates. -/
theorem ix2_of {A B : ℕ} (i : (⟨2, ![A, B]⟩ : Shape).Idx) (a : Fin A) (b : Fin B) (h0 : (i 0).val = a.val) (h1 : (i 1).val = b.val) : i = ix2 a b :=
  funext fun (x : Fin 2) => match x with
  | 0 => Fin.ext h0
  | 1 => Fin.ext h1

section
variable (t : Fin grid0.N) (r : Fin 8192) (p : Fin 256) (h : r.val = t.val * 256 + p.val)

include h in
theorem row_at : cc0_transform_0 (grid0.coords t) 0 * 256 + 1 * p.val = r.val := by
  rw [(maps t).1, h]; simp

theorem column_at (w k : ℕ) : cc0_transform_0 (grid0.coords t) 1 * w + 1 * k = k := by
  rw [(maps t).1]; simp

theorem whole_at (a : Fin 2) (w k : ℕ) : cc0_transform_5 (grid0.coords t) a * w + 1 * k = k := by
  rw [(maps t).2]
  match a with
  | 0 => simp
  | 1 => simp

include h in
theorem block_ga (k : Fin 1024) :
    (iblk m c 0 t : Vec Ideal S256x1024 .bf16) (ix2 p k) = (m ((c.tc : Thread nD τ).loc main_arg0) : Vec Ideal S4x2048x1024 .bf16) (ix3 (batch r) (place r) k) := by
  refine (congrArg (V m c main_v9 : Vec Ideal S8192x1024 .bf16) (ix2_of _ r k (row_at t r p h) (column_at t 1024 k.val))).trans ?_
  entry_read
  unfold batch place
  pointwise

include h in
theorem block_gb (k : Fin 1024) :
    (iblk m c 1 t : Vec Ideal S256x1024 .bf16) (ix2 p k) = (m ((c.tc : Thread nD τ).loc main_arg1) : Vec Ideal S4x2048x1024 .bf16) (ix3 (batch r) (place r) k) := by
  refine (congrArg (V m c main_v10 : Vec Ideal S8192x1024 .bf16) (ix2_of _ r k (row_at t r p h) (column_at t 1024 k.val))).trans ?_
  entry_read
  unfold batch place
  pointwise

include h in
theorem block_gm (k : Fin 512) :
    (iblk m c 2 t : Vec Ideal S256x512 .bf16) (ix2 p k) = (m ((c.tc : Thread nD τ).loc main_arg2) : Vec Ideal S4x2048x512 .bf16) (ix3 (batch r) (place r) k) := by
  refine (congrArg (V m c main_v11 : Vec Ideal S8192x512 .bf16) (ix2_of _ r k (row_at t r p h) (column_at t 512 k.val))).trans ?_
  entry_read
  unfold batch place
  pointwise

include h in
theorem block_u (k : Fin 6144) :
    (X0_3 m c t : Vec Ideal S256x6144 .bf16) (ix2 p k) = (m ((c.tc : Thread nD τ).loc main_arg3) : Vec Ideal S8192x13312 .bf16) (ix2 r ⟨k.val, by omega⟩) := by
  unfold X0_3 Pipeline.Window.fill
  rw [dif_pos (moved0_3 t _)]
  refine (congrArg (V m c main_arg3 : Vec Ideal S8192x13312 .bf16) (ix2_of _ r ⟨k.val, by omega⟩ (row_at t r p h) (column_at t 6144 k.val))).trans ?_
  rw [V_main_arg3]

include h in
theorem block_x (k : Fin 2048) :
    (iblk m c 4 t : Vec Ideal S256x2048 .f32) (ix2 p k) = (m ((c.tc : Thread nD τ).loc main_arg4) : Vec Ideal S4x2048x2048 .f32) (ix3 (batch r) (place r) k) := by
  refine (congrArg (V m c main_v0 : Vec Ideal S8192x2048 .f32) (ix2_of _ r k (row_at t r p h) (column_at t 2048 k.val))).trans ?_
  entry_read
  unfold batch place
  pointwise

theorem block_wa (k : Fin 1024) (j : Fin 2048) :
    (iblk m c 5 t : Vec Ideal S1024x2048 .bf16) (ix2 k j) = (m ((c.tc : Thread nD τ).loc main_arg5) : Vec Ideal S1x1024x2048 .f32) (ix3 0 k j) := by
  refine (congrArg (V m c main_v2 : Vec Ideal S1024x2048 .bf16) (ix2_of _ k j (whole_at t 0 1024 k.val) (whole_at t 1 2048 j.val))).trans ?_
  entry_read
  pointwise

theorem block_wb (k : Fin 1024) (j : Fin 2048) :
    (iblk m c 6 t : Vec Ideal S1024x2048 .bf16) (ix2 k j) = (m ((c.tc : Thread nD τ).loc main_arg6) : Vec Ideal S1x1024x2048 .f32) (ix3 0 k j) := by
  refine (congrArg (V m c main_v4 : Vec Ideal S1024x2048 .bf16) (ix2_of _ k j (whole_at t 0 1024 k.val) (whole_at t 1 2048 j.val))).trans ?_
  entry_read
  pointwise

theorem block_wm (k : Fin 512) (j : Fin 2048) :
    (iblk m c 7 t : Vec Ideal S512x2048 .bf16) (ix2 k j) = (m ((c.tc : Thread nD τ).loc main_arg7) : Vec Ideal S1x512x2048 .f32) (ix3 0 k j) := by
  refine (congrArg (V m c main_v6 : Vec Ideal S512x2048 .bf16) (ix2_of _ k j (whole_at t 0 512 k.val) (whole_at t 1 2048 j.val))).trans ?_
  entry_read
  pointwise

theorem block_wo (k : Fin 2048) (j : Fin 2048) :
    (iblk m c 8 t : Vec Ideal S2048x2048 .bf16) (ix2 k j) = (m ((c.tc : Thread nD τ).loc main_arg8) : Vec Ideal S1x2048x2048 .f32) (ix3 0 k j) := by
  refine (congrArg (V m c main_v8 : Vec Ideal S2048x2048 .bf16) (ix2_of _ k j (whole_at t 0 2048 k.val) (whole_at t 1 2048 j.val))).trans ?_
  entry_read
  pointwise

theorem block_g (n : Fin 2048) :
    (iblk m c 9 t : Vec Ideal S1x2048 .f32) (ix2 0 n) = (m ((c.tc : Thread nD τ).loc main_arg9) : Vec Ideal S2048 .f32) (ix1 n) := by
  refine (congrArg (V m c main_v12 : Vec Ideal S1x2048 .f32) (ix2_of _ 0 n (whole_at t 0 1 0) (whole_at t 1 2048 n.val))).trans ?_
  entry_read
  pointwise

end

/-- The result over the arguments as launched. -/
def final : Vec Ideal S8192x2048 .f32 :=
  result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- What grid point `t` leaves in its output block is that block of rows of the result. -/
theorem block_out (t : Fin grid0.N) (y : S256x2048.Idx) (i : S8192x2048.Idx) (h0 : (i 0).val = t.val * 256 + (y 0).val) (h1 : (i 1).val = (y 1).val) :
    outsAt0 m c t y = final m c i := by
  refine (block ..).trans ?_
  unfold final result
  rw [show y 1 = i 1 from Fin.ext h1.symm]
  have e1 := funext (block_ga m c t (i 0) (y 0) h0)
  have e2 := funext (block_gb m c t (i 0) (y 0) h0)
  have e3 := funext (block_gm m c t (i 0) (y 0) h0)
  have e4 := funext (block_u m c t (i 0) (y 0) h0)
  have e5 := funext (block_x m c t (i 0) (y 0) h0)
  have e6 := funext fun k => funext (block_wa m c t k)
  have e7 := funext fun k => funext (block_wb m c t k)
  have e8 := funext fun k => funext (block_wm m c t k)
  have e9 := funext fun k => funext (block_wo m c t k)
  have e10 := funext (block_g m c t)
  rw [e1, e2, e3, e4, e5, e6, e7, e8, e9, e10]

/-- The block of the result that point `t` writes, at an index. -/
theorem emb_out (t : Fin cfg0.N) (y : S256x2048.Idx) (a : Fin 2) :
    (((cfg0.win 10).blk t).view.emb y a : Fin _).val = ![t.val * 256 + (y 0).val, (y 1).val] a := by
  match a with
  | 0 => exact row_at t ⟨t.val * 256 + (y 0).val, by have := lt_N t; have h : (y 0).val < 256 := (y 0).isLt; omega⟩ (y 0) rfl
  | 1 => exact column_at t 2048 (y 1).val

theorem arr : (dats m 0 c).arrAt 10 cfg0.N = final m c := by
  refine (dats m 0 c).arrAt_eq_of_emb 10 _ (fun t _ y => ?_) fun (i : S8192x2048.Idx) => ?_
  · refine Eq.trans ?_ (block_out m c t y _ (emb_out t y 0) (emb_out t y 1))
    show (dats m 0 c).after 10 t y = _
    rw [after0_10]
  · have h0 : (i 0).val < 8192 := (i 0).isLt
    let t : Fin cfg0.N := ⟨(i 0).val / 256, by
      show _ < grid0.N
      rw [N_0]; omega⟩
    refine ⟨t, flush0_10 t, ?_⟩
    have e : ((cfg0.win 10).blk t).view.emb (ix2 ⟨(i 0).val % 256, by omega⟩ (i 1) : S256x2048.Idx) = i := by
      refine funext fun (a : Fin 2) => Fin.ext ((emb_out t _ a).trans ?_)
      match a with
      | 0 => show (i 0).val / 256 * 256 + (i 0).val % 256 = (i 0).val
             omega
      | 1 => rfl
    exact e ▸ View.emb_mem_set _ _

end Cert.Merge
-- ==== Proof.Merge.Reference.lean ====
/- The reference of the merge, entry by entry. -/
module

public import proofs.«01_k».proof.Proof.Merge.Blocks
public import proofs.«01_k».proof.Proof.Gen.MergeReferenceIdeal.Run

@[expose] public section

set_option maxRecDepth 16384

noncomputable section

namespace Cert.Merge

open Idealize.ShloMosaic Idealize.ShloMosaic.TcCoe Idealize.SL.Sem Cert.MergeReferenceIdeal Cert.MergeReferenceIdeal.Facts₀

/-- The sigmoid of the gate logits of one branch, at columns from `o`. -/
def gate (u : FVec Ideal S8192x13312 .bf16) (o : ℕ) (ho : Shape.Slices S4x2048x6144 ![0, 0, o] S4x2048x2048) : FVec Ideal S4x2048x2048 .f32 :=
  Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf (extractStridedSlice S4x2048x2048 ![0, 0, o] (shapeCast _ (extf .f32 (extractStridedSlice S8192x6144 ![0, 0] u slices_S8192x13312_S8192x6144_0_0) bitsLt_bf16_f32) shapeCasts_S8192x6144_S4x2048x6144) ho))))

/-- The residual of the reference. -/
def sum (ga gb : FVec Ideal S4x2048x1024 .bf16) (gm : FVec Ideal S4x2048x512 .bf16) (s0 s1 s2 x : FVec Ideal S4x2048x2048 .f32)
    (wa wb : FVec Ideal S1x1024x2048 .f32) (wm : FVec Ideal S1x512x2048 .f32) (wo : FVec Ideal S1x2048x2048 .f32) : FVec Ideal S4x2048x2048 .f32 :=
  addf x (Host.dotGeneral dot_S4x2048x2048_S2048x2048_S4x2048x2048_2_0_01_1_n_n none (addf (addf
    (mulf s0 (Host.dotGeneral dot_S4x2048x1024_S1024x2048_S4x2048x2048_2_0_01_1_n_n none (extf .f32 ga bitsLt_bf16_f32) (shapeCast _ wa shapeCasts_S1x1024x2048_S1024x2048)))
    (mulf s1 (Host.dotGeneral dot_S4x2048x1024_S1024x2048_S4x2048x2048_2_0_01_1_n_n none (extf .f32 gb bitsLt_bf16_f32) (shapeCast _ wb shapeCasts_S1x1024x2048_S1024x2048))))
    (mulf s2 (Host.dotGeneral dot_S4x2048x512_S512x2048_S4x2048x2048_2_0_01_1_n_n none (extf .f32 gm bitsLt_bf16_f32) (shapeCast _ wm shapeCasts_S1x512x2048_S512x2048))))
    (shapeCast _ wo shapeCasts_S1x2048x2048_S2048x2048))

/-- The final normalisation of the reference. -/
def norm (v : FVec Ideal S4x2048x2048 .f32) (g : FVec Ideal S2048 .f32) : FVec Ideal S8192x2048 .f32 :=
  shapeCast _ (mulf (mulf v (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf v v) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 g))) shapeCasts_S4x2048x2048_S8192x2048

theorem gate_apply (u : FVec Ideal S8192x13312 .bf16) (o : ℕ) (ho) (r : Fin 8192) (j : Fin 2048) (k : Fin 13312) (hk : k.val = o + j.val) :
    gate u o ho (ix3 (batch r) (place r) j) = Ideal.div 1 (1 + Ideal.exp (-u (ix2 r k))) := by
  rw [show k = ⟨o + j.val, by omega⟩ from Fin.ext hk]
  unfold gate batch place
  pointwise

theorem sum_apply (ga gb : FVec Ideal S4x2048x1024 .bf16) (gm : FVec Ideal S4x2048x512 .bf16) (s0 s1 s2 x : FVec Ideal S4x2048x2048 .f32)
    (wa wb : FVec Ideal S1x1024x2048 .f32) (wm : FVec Ideal S1x512x2048 .f32) (wo : FVec Ideal S1x2048x2048 .f32) (b : Fin 4) (t n : Fin 2048) :
    sum ga gb gm s0 s1 s2 x wa wb wm wo (ix3 b t n) = x (ix3 b t n) + ∑ j : Fin 2048, (s0 (ix3 b t j) * (∑ k : Fin 1024, ga (ix3 b t k) * wa (ix3 0 k j))
      + s1 (ix3 b t j) * (∑ k : Fin 1024, gb (ix3 b t k) * wb (ix3 0 k j)) + s2 (ix3 b t j) * (∑ k : Fin 512, gm (ix3 b t k) * wm (ix3 0 k j))) * wo (ix3 0 j n) := by
  unfold sum
  pointwise

theorem norm_apply (v : FVec Ideal S4x2048x2048 .f32) (g : FVec Ideal S2048 .f32) (i : S8192x2048.Idx) :
    norm v g i = normalised (fun n => v (ix3 (batch (i 0)) (place (i 0)) n)) (fun n => g (ix1 n)) (i 1) := by
  unfold norm normalised batch place
  pointwise

/-- The reference computes the result of the merge. -/
theorem reference (m : (ℓ : Loc nD τ sig) → Buf (Elt Ideal) ℓ) (c : Dev nD) : Value.res_main_v54 m c
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have h : Value.res_main_v54 m c = norm (sum (m ((c.tc : Thread nD τ).loc main_arg0)) (m ((c.tc : Thread nD τ).loc main_arg1)) (m ((c.tc : Thread nD τ).loc main_arg2))
      (gate (m ((c.tc : Thread nD τ).loc main_arg3)) 0 slices_S4x2048x6144_S4x2048x2048_0_0_0) (gate (m ((c.tc : Thread nD τ).loc main_arg3)) 2048 slices_S4x2048x6144_S4x2048x2048_0_0_2048)
      (gate (m ((c.tc : Thread nD τ).loc main_arg3)) 4096 slices_S4x2048x6144_S4x2048x2048_0_0_4096) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) := rfl
  funext i
  rw [h, norm_apply]
  unfold result
  refine congrArg (fun v => normalised v _ (i 1)) (funext fun n => ?_)
  rw [sum_apply]
  unfold residual branch
  refine congrArg (fun s : EReal => (_ : EReal) + s) (Finset.sum_congr rfl fun j _ => congrArg (fun s : EReal => s * (_ : EReal)) ?_)
  rw [gate_apply _ 0 _ (i 0) j ⟨j.val, by omega⟩ (Nat.zero_add _).symm, gate_apply _ 2048 _ (i 0) j ⟨2048 + j.val, by omega⟩ rfl, gate_apply _ 4096 _ (i 0) j ⟨4096 + j.val, by omega⟩ rfl]

end Cert.Merge
-- ==== Proof.Latents.Row.lean ====
/- One row of the latent projections: the normalised latent, its products with the up-projections, and the rotation of the
   positional part; and what the kernel's body leaves in its three output blocks, row by row. -/
module

public import proofs.«01_k».proof.Proof.Gen.LatentsIdeal.Value
public import Idealize.ShloMosaic.Lib.Pipeline.ValueKit

@[expose] public section

set_option maxRecDepth 16384

noncomputable section

namespace Cert.Latents

open Cert.LatentsIdeal Cert.LatentsIdeal.Gen Cert.LatentsIdeal.Facts₀
open Idealize.ShloMosaic Idealize.ShloMosaic.TcCoe Idealize.SL.Sem

/-- A latent row divided by its root mean square (plus the small constant), times the gain; `n` is the row's length. -/
def hidden {K : ℕ} (v g : Fin K → EReal) (n : EReal) (k : Fin K) : EReal :=
  v k * Ideal.rsqrt (Ideal.div (∑ k, v k * v k) n + Ideal.ofBits .f32 897988541#32) * g k

/-- The rotation of 64 columns, the first half paired with the second, by an angle for each pair. -/
def rotated (x : Fin 64 → EReal) (a : Fin 32 → EReal) (d : Fin 64) : EReal :=
  if h : d.val < 32 then x d * Ideal.cos (a ⟨d.val, h⟩) - x ⟨d.val + 32, by omega⟩ * Ideal.sin (a ⟨d.val, h⟩)
  else x d * Ideal.cos (a ⟨d.val - 32, by omega⟩) + x ⟨d.val - 32, by omega⟩ * Ideal.sin (a ⟨d.val - 32, by omega⟩)

/-- One head's 256 columns: the part without position, the rotated part, and zeros. -/
def head (p : Fin 128 → EReal) (x : Fin 64 → EReal) (a : Fin 32 → EReal) (e : Fin 256) : EReal :=
  if h : e.val < 128 then p ⟨e.val, h⟩ else if h : e.val < 192 then rotated x a ⟨e.val - 128, by omega⟩ else 0

/-- The lane that a rotary tile of 128 lanes pairs with a lane. -/
def partner (l : Fin 128) : Fin 128 := if l.val < 32 then ⟨(l.val + 32) % 128, by omega⟩ else ⟨l.val - 32, by omega⟩

/-- A rotary tile of the kernel: the lane times its cosine plus its partner times its signed sine. -/
def tile (x c s : Fin 128 → EReal) (l : Fin 128) : EReal := x l * c l + x (partner l) * s l

theorem tile_congr {x x' c c' s s' : Fin 128 → EReal} {l l' : Fin 128} (hx : ∀ l, x l = x' l) (hc : ∀ l, c l = c' l) (hs : ∀ l, s l = s' l)
    (hl : l = l') : tile x c s l = tile x' c' s' l' := by
  rw [funext hx, funext hc, funext hs, hl]

section
variable (v : FVec Ideal S512x2048 .f32) (x c s : FVec Ideal S512x128 .f32)

/-- The rotary tile as the body computes it. -/
def turn : FVec Ideal S512x128 .bf16 :=
  truncf .bf16 (addf (mulf x c) (mulf (select k0_pay7 (dynamicRotate 1 96#32 none x Facts₀.rotates_S512x128_d1) (dynamicRotate 1 32#32 none x Facts₀.rotates_S512x128_d1)) s)) Facts₀.bitsLt_bf16_f32

theorem low_lane (l : Fin 128) : IntOp.cmpi CmpIPredicate.slt (BitVec.ofNat 32 l.val) 32#32 = if l.val < 32 then 1#1 else 0#1 := by
  revert l; decide +kernel

theorem half_lane (l : Fin 128) : IntOp.cmpi CmpIPredicate.slt (BitVec.ofNat 32 l.val) 64#32 = if l.val < 64 then 1#1 else 0#1 := by
  revert l; decide +kernel

theorem turn_apply (y : S512x128.Idx) : turn x c s y
    = tile (fun l => x (ix2 (y 0) l)) (fun l => c (ix2 (y 0) l)) (fun l => s (ix2 (y 0) l)) (y 1) := by
  have e : turn x c s y = x (ix2 (y 0) (y 1)) * c (ix2 (y 0) (y 1)) +
      Scalar.select (IntOp.cmpi CmpIPredicate.slt (BitVec.ofNat 32 (y 1).val) 32#32)
          (x (ix2 (y 0) ⟨((y 1).val + 128 - 96) % 128, Nat.mod_lt _ (by omega)⟩)) (x (ix2 (y 0) ⟨((y 1).val + 128 - 32) % 128, Nat.mod_lt _ (by omega)⟩)) *
        s (ix2 (y 0) (y 1)) := by
    unfold turn
    pointwise [k0_pay7]
  rw [e, low_lane (y 1)]
  unfold tile partner
  have hy : (y 1).val < 128 := (y 1).isLt
  by_cases h : (y 1).val < 32
  · simp only [h, if_true]
    rw [show Scalar.select 1#1 (x (ix2 (y 0) ⟨((y 1).val + 128 - 96) % 128, Nat.mod_lt _ (by omega)⟩)) (x (ix2 (y 0) ⟨((y 1).val + 128 - 32) % 128, Nat.mod_lt _ (by omega)⟩)) = x (ix2 (y 0) ⟨((y 1).val + 128 - 96) % 128, Nat.mod_lt _ (by omega)⟩) from rfl]
    rw [show (⟨((y 1).val + 128 - 96) % 128, Nat.mod_lt _ (by omega)⟩ : Fin 128) = ⟨((y 1).val + 32) % 128, Nat.mod_lt _ (by omega)⟩ from Fin.ext (by dsimp only; omega)]
  · simp only [h, if_false]
    rw [show Scalar.select 0#1 (x (ix2 (y 0) ⟨((y 1).val + 128 - 96) % 128, Nat.mod_lt _ (by omega)⟩)) (x (ix2 (y 0) ⟨((y 1).val + 128 - 32) % 128, Nat.mod_lt _ (by omega)⟩)) = x (ix2 (y 0) ⟨((y 1).val + 128 - 32) % 128, Nat.mod_lt _ (by omega)⟩) from rfl]
    rw [show (⟨((y 1).val + 128 - 32) % 128, Nat.mod_lt _ (by omega)⟩ : Fin 128) = ⟨(y 1).val - 32, by omega⟩ from Fin.ext (by dsimp only; omega)]

theorem norm_q (v0 : Vec Ideal S512x512 .bf16) (g : Vec Ideal S1x512 .f32) (w : Vec Ideal S512x2048 .bf16) (y : S512x2048.Idx) :
    k0_pay8 (F := Ideal) v0 g w y = (∑ k : Fin 512, hidden (fun k => v0 (ix2 (y 0) k)) (fun k => g (ix2 0 k)) (Ideal.ofBits .f32 0x44000000#32) k * w (ix2 k (y 1))) * Ideal.ofBits .f32 0x3DD53B95#32 := by
  unfold hidden
  pointwise [k0_pay8]

theorem norm_kv (v0 : Vec Ideal S512x256 .bf16) (g : Vec Ideal S1x256 .f32) (w : Vec Ideal S256x2048 .bf16) (y : S512x2048.Idx) :
    k0_pay34 (F := Ideal) v0 g w y = ∑ k : Fin 256, hidden (fun k => v0 (ix2 (y 0) k)) (fun k => g (ix2 0 k)) (Ideal.ofBits .f32 0x43800000#32) k * w (ix2 k (y 1)) := by
  unfold hidden
  pointwise [k0_pay34]

/-- The query block, column by column: heads of 256 columns, the first 128 the product itself, the last 128 its rotary tile. -/
def queries (y : S512x2048.Idx) : EReal :=
  if (y 1).val % 256 < 128 then v y
  else tile (fun l => v (ix2 (y 0) ⟨(y 1).val - (y 1).val % 128 + l.val, by have := (y 1).isLt; have : S512x2048.size 1 = 2048 := rfl; omega⟩))
    (fun l => c (ix2 (y 0) l)) (fun l => s (ix2 (y 0) l)) ⟨(y 1).val % 128, Nat.mod_lt _ (by omega)⟩

/-- The key block, column by column: the first 128 of a head's 256 columns are the head's own, the last 128 the rotary tile
    that all heads share. -/
def keys (y : S512x2048.Idx) : EReal :=
  if (y 1).val % 256 < 128 then v (ix2 (y 0) ⟨(y 1).val / 256 * 128 + (y 1).val % 128, by have := (y 1).isLt; have : S512x2048.size 1 = 2048 := rfl; omega⟩)
  else tile (fun l => x (ix2 (y 0) l)) (fun l => c (ix2 (y 0) l)) (fun l => s (ix2 (y 0) l)) ⟨(y 1).val % 128, Nat.mod_lt _ (by omega)⟩

theorem emb_col (o : ℕ) (inb) (z : S512x128.Idx) (a : Fin 2) :
    ((Rect.unit (s := S512x2048) ![0, o] S512x128.size inb).emb z a).val = ![(z 0).val, o + (z 1).val] a := by
  refine (Rect.idx_unit_val _ _ inb z a).trans ?_
  match a with
  | 0 => exact Nat.zero_add _
  | 1 => rfl

theorem plain_queries (o : ℕ) (ho : o % 256 = 0) (h : Shape.Slices S512x2048 ![0, o] S512x128) (inb) (z : S512x128.Idx) :
    truncf .bf16 (extractStridedSlice S512x128 ![0, o] v h) Facts₀.bitsLt_bf16_f32 z
      = queries v c s ((Rect.unit (s := S512x2048) ![0, o] S512x128.size inb).emb z) := by
  have e0 := emb_col o inb z 0
  have e1 := emb_col o inb z 1
  have hz : (z 1).val < 128 := (z 1).isLt
  unfold queries
  rw [if_pos (by rw [e1]; show (o + (z 1).val) % 256 < 128; omega)]
  refine congrArg v (funext fun (a : Fin 2) => Fin.ext ?_)
  match a with
  | 0 => exact (Nat.zero_add _).trans e0.symm
  | 1 => exact e1.symm

theorem turn_queries (o : ℕ) (ho : o % 256 = 128) (h : Shape.Slices S512x2048 ![0, o] S512x128) (inb) (z : S512x128.Idx) :
    turn (extractStridedSlice S512x128 ![0, o] v h) c s z
      = queries v c s ((Rect.unit (s := S512x2048) ![0, o] S512x128.size inb).emb z) := by
  have e0 := emb_col o inb z 0
  have e1 := emb_col o inb z 1
  have hz : (z 1).val < 128 := (z 1).isLt
  rw [turn_apply]
  unfold queries
  rw [if_neg (by rw [e1]; show ¬ (o + (z 1).val) % 256 < 128; omega)]
  have f0 : ((Rect.unit (s := S512x2048) ![0, o] S512x128.size inb).emb z 0 : Fin 512) = z 0 := Fin.ext e0
  refine tile_congr (fun l => ?_) (fun l => congrArg (fun p : Fin 512 => c (ix2 p l)) f0.symm) (fun l => congrArg (fun p : Fin 512 => s (ix2 p l)) f0.symm) (Fin.ext ?_)
  · refine congrArg v (funext fun (a : Fin 2) => Fin.ext ?_)
    match a with
    | 0 => exact (Nat.zero_add _).trans e0.symm
    | 1 =>
      show o + l.val = ((Rect.unit (s := S512x2048) ![0, o] S512x128.size inb).emb z 1).val - ((Rect.unit (s := S512x2048) ![0, o] S512x128.size inb).emb z 1).val % 128 + l.val
      rw [e1]
      show o + l.val = (o + (z 1).val) - (o + (z 1).val) % 128 + l.val
      omega
  · show (z 1).val = ((Rect.unit (s := S512x2048) ![0, o] S512x128.size inb).emb z 1).val % 128
    rw [e1]
    show (z 1).val = (o + (z 1).val) % 128
    omega

theorem plain_keys (o p : ℕ) (ho : o = 2 * p) (hp : p % 128 = 0) (h : Shape.Slices S512x2048 ![0, p] S512x128) (inb) (z : S512x128.Idx) :
    truncf .bf16 (extractStridedSlice S512x128 ![0, p] v h) Facts₀.bitsLt_bf16_f32 z
      = keys v x c s ((Rect.unit (s := S512x2048) ![0, o] S512x128.size inb).emb z) := by
  have e0 := emb_col o inb z 0
  have e1 := emb_col o inb z 1
  have hz : (z 1).val < 128 := (z 1).isLt
  unfold keys
  rw [if_pos (by rw [e1]; show (o + (z 1).val) % 256 < 128; omega)]
  refine congrArg v (funext fun (a : Fin 2) => Fin.ext ?_)
  match a with
  | 0 => exact (Nat.zero_add _).trans e0.symm
  | 1 =>
    show p + (z 1).val = ((Rect.unit (s := S512x2048) ![0, o] S512x128.size inb).emb z 1).val / 256 * 128 + ((Rect.unit (s := S512x2048) ![0, o] S512x128.size inb).emb z 1).val % 128
    rw [e1]
    show p + (z 1).val = (o + (z 1).val) / 256 * 128 + (o + (z 1).val) % 128
    omega

theorem turn_keys (o : ℕ) (ho : o % 256 = 128) (inb) (z : S512x128.Idx) :
    turn x c s z = keys v x c s ((Rect.unit (s := S512x2048) ![0, o] S512x128.size inb).emb z) := by
  have e0 := emb_col o inb z 0
  have e1 := emb_col o inb z 1
  have hz : (z 1).val < 128 := (z 1).isLt
  rw [turn_apply]
  unfold keys
  rw [if_neg (by rw [e1]; show ¬ (o + (z 1).val) % 256 < 128; omega)]
  have f0 : ((Rect.unit (s := S512x2048) ![0, o] S512x128.size inb).emb z 0 : Fin 512) = z 0 := Fin.ext e0
  refine tile_congr (fun l => congrArg (fun p : Fin 512 => x (ix2 p l)) f0.symm) (fun l => congrArg (fun p : Fin 512 => c (ix2 p l)) f0.symm) (fun l => congrArg (fun p : Fin 512 => s (ix2 p l)) f0.symm) (Fin.ext ?_)
  show (z 1).val = ((Rect.unit (s := S512x2048) ![0, o] S512x128.size inb).emb z 1).val % 128
  rw [e1]
  show (z 1).val = (o + (z 1).val) % 128
  omega

end

section
variable (x0 : Vec Ideal S512x512 .bf16) (x1 : Vec Ideal S512x256 .bf16) (x2 : Vec Ideal S512x256 .bf16) (x3 : Vec Ideal S1x512 .f32) (x4 : Vec Ideal S1x256 .f32) (x5 : Vec Ideal S512x2048 .bf16) (x6 : Vec Ideal S256x2048 .bf16) (x7 : Vec Ideal S512x128 .f32) (x8 : Vec Ideal S512x128 .f32)

/-- The rotary key's tile before the rotation: the first 64 lanes, zeros after them. -/
def lanes : FVec Ideal S512x128 .f32 := fun y => if (y 1).val < 64 then x2 (ix2 (y 0) ⟨(y 1).val, Nat.lt_trans (y 1).isLt (by decide)⟩) else 0

theorem lanes_eq : select k0_pay35 (extf .f32 (View.ld x2 r0_23 : Vec Ideal S512x128 .bf16) Facts₀.bitsLt_bf16_f32) (broadcast S512x128 (Scalar.ofBits .f32 0x00000000#32 : Ideal .f32)) = lanes x2 := by
  funext y
  unfold lanes
  rw [show ∀ q : FVec Ideal S512x128 .f32, ∀ r : FVec Ideal S512x128 .f32, select k0_pay35 q r y = Scalar.select (IntOp.cmpi CmpIPredicate.slt (BitVec.ofNat 32 (y 1).val) 64#32) (q y) (r y) from fun q r => by unfold k0_pay35; pointwise, half_lane (y 1)]
  by_cases h : (y 1).val < 64
  · simp only [h, if_true]
    pointwise
  · simp only [h, if_false]
    pointwise

theorem cosines (x7 : Vec Ideal S512x128 .f32) : k0_pay5 (F := Ideal) x7 = x7 := by funext y; pointwise [k0_pay5]
theorem sines (x8 : Vec Ideal S512x128 .f32) : k0_pay6 (F := Ideal) x8 = x8 := by funext y; pointwise [k0_pay6]

theorem out9_apply (y : S512x2048.Idx) : out0_9 (F := Ideal) x0 x1 x2 x3 x4 x5 x6 x7 x8 y = queries (k0_pay8 x0 x3 x5) x7 x8 y := by
  have h0 : View.ld x0 r0_1 = x0 := View.ld_unit_lit _ _ (by decide)
  have h3 : View.ld x3 r0_2 = x3 := View.ld_unit_lit _ _ (by decide)
  have h5 : View.ld x5 r0_3 = x5 := View.ld_unit_lit _ _ (by decide)
  have h7 : View.ld x7 r0_0 = x7 := View.ld_unit_lit _ _ (by decide)
  have h8 : View.ld x8 r0_0 = x8 := View.ld_unit_lit _ _ (by decide)
  unfold_out out0_9
  rw [h0, h3, h5, h7, h8]
  refine Eq.trans ?_ (congrArg₂ (fun c s => queries (k0_pay8 x0 x3 x5) c s y) (cosines x7) (sines x8))
  refine View.canon_apply_of_pieces (Val := Elt Ideal) (e := .bf16) (queries (k0_pay8 x0 x3 x5) (k0_pay5 x7) (k0_pay6 x8)) _ (fun p hp z => ?_) y (cover0_9 _ _ _ _ _ _ _ _ _ _ _ _ _ _ _ _ y)
  simp only [List.mem_cons, List.not_mem_nil, or_false] at hp
  rcases hp with rfl | rfl | rfl | rfl | rfl | rfl | rfl | rfl | rfl | rfl | rfl | rfl | rfl | rfl | rfl | rfl
  · exact turn_queries (k0_pay8 x0 x3 x5) (k0_pay5 x7) (k0_pay6 x8) 1920 rfl Facts₀.slices_S512x2048_o0_1920_S512x128 Facts₀.inb_S512x2048_S512x128_0_1920 z
  · exact plain_queries _ _ _ 1792 rfl Facts₀.slices_S512x2048_o0_1792_S512x128 Facts₀.inb_S512x2048_S512x128_0_1792 z
  · exact turn_queries (k0_pay8 x0 x3 x5) (k0_pay5 x7) (k0_pay6 x8) 1664 rfl Facts₀.slices_S512x2048_o0_1664_S512x128 Facts₀.inb_S512x2048_S512x128_0_1664 z
  · exact plain_queries _ _ _ 1536 rfl Facts₀.slices_S512x2048_o0_1536_S512x128 Facts₀.inb_S512x2048_S512x128_0_1536 z
  · exact turn_queries (k0_pay8 x0 x3 x5) (k0_pay5 x7) (k0_pay6 x8) 1408 rfl Facts₀.slices_S512x2048_o0_1408_S512x128 Facts₀.inb_S512x2048_S512x128_0_1408 z
  · exact plain_queries _ _ _ 1280 rfl Facts₀.slices_S512x2048_o0_1280_S512x128 Facts₀.inb_S512x2048_S512x128_0_1280 z
  · exact turn_queries (k0_pay8 x0 x3 x5) (k0_pay5 x7) (k0_pay6 x8) 1152 rfl Facts₀.slices_S512x2048_o0_1152_S512x128 Facts₀.inb_S512x2048_S512x128_0_1152 z
  · exact plain_queries _ _ _ 1024 rfl Facts₀.slices_S512x2048_o0_1024_S512x128 Facts₀.inb_S512x2048_S512x128_0_1024 z
  · exact turn_queries (k0_pay8 x0 x3 x5) (k0_pay5 x7) (k0_pay6 x8) 896 rfl Facts₀.slices_S512x2048_o0_896_S512x128 Facts₀.inb_S512x2048_S512x128_0_896 z
  · exact plain_queries _ _ _ 768 rfl Facts₀.slices_S512x2048_o0_768_S512x128 Facts₀.inb_S512x2048_S512x128_0_768 z
  · exact turn_queries (k0_pay8 x0 x3 x5) (k0_pay5 x7) (k0_pay6 x8) 640 rfl Facts₀.slices_S512x2048_o0_640_S512x128 Facts₀.inb_S512x2048_S512x128_0_640 z
  · exact plain_queries _ _ _ 512 rfl Facts₀.slices_S512x2048_o0_512_S512x128 Facts₀.inb_S512x2048_S512x128_0_512 z
  · exact turn_queries (k0_pay8 x0 x3 x5) (k0_pay5 x7) (k0_pay6 x8) 384 rfl Facts₀.slices_S512x2048_o0_384_S512x128 Facts₀.inb_S512x2048_S512x128_0_384 z
  · exact plain_queries _ _ _ 256 rfl Facts₀.slices_S512x2048_o0_256_S512x128 Facts₀.inb_S512x2048_S512x128_0_256 z
  · exact turn_queries (k0_pay8 x0 x3 x5) (k0_pay5 x7) (k0_pay6 x8) 128 rfl Facts₀.slices_S512x2048_o0_128_S512x128 Facts₀.inb_S512x2048_S512x128_0_128 z
  · exact plain_queries _ _ _ 0 rfl Facts₀.slices_S512x2048_o0_0_S512x128 Facts₀.inb_S512x2048_S512x128_0_0 z

theorem out10_apply (y : S512x2048.Idx) : out0_10 (F := Ideal) x0 x1 x2 x3 x4 x5 x6 x7 x8 y = keys (k0_pay34 x1 x4 x6) (lanes x2) x7 x8 y := by
  have h1 : View.ld x1 r0_20 = x1 := View.ld_unit_lit _ _ (by decide)
  have h4 : View.ld x4 r0_21 = x4 := View.ld_unit_lit _ _ (by decide)
  have h6 : View.ld x6 r0_22 = x6 := View.ld_unit_lit _ _ (by decide)
  have h7 : View.ld x7 r0_0 = x7 := View.ld_unit_lit _ _ (by decide)
  have h8 : View.ld x8 r0_0 = x8 := View.ld_unit_lit _ _ (by decide)
  have t : k0_pay36 (F := Ideal) (k0_pay5 x7) (k0_pay6 x8) k0_pay7 k0_pay35 (View.ld x2 r0_23) = turn (lanes x2) (k0_pay5 x7) (k0_pay6 x8) := by rw [← lanes_eq]; rfl
  unfold_out out0_10
  rw [h1, h4, h6, h7, h8, t, cosines, sines]
  refine View.canon_apply_of_pieces (Val := Elt Ideal) (e := .bf16) (keys (k0_pay34 x1 x4 x6) (lanes x2) x7 x8) _ (fun p hp z => ?_) y (cover0_10 _ _ _ _ _ _ _ _ _ _ _ _ _ _ _ _ y)
  simp only [List.mem_cons, List.not_mem_nil, or_false] at hp
  rcases hp with rfl | rfl | rfl | rfl | rfl | rfl | rfl | rfl | rfl | rfl | rfl | rfl | rfl | rfl | rfl | rfl
  · exact turn_keys _ _ _ _ 1920 rfl Facts₀.inb_S512x2048_S512x128_0_1920 z
  · exact plain_keys _ _ _ _ 1792 896 rfl rfl Facts₀.slices_S512x2048_o0_896_S512x128 Facts₀.inb_S512x2048_S512x128_0_1792 z
  · exact turn_keys _ _ _ _ 1664 rfl Facts₀.inb_S512x2048_S512x128_0_1664 z
  · exact plain_keys _ _ _ _ 1536 768 rfl rfl Facts₀.slices_S512x2048_o0_768_S512x128 Facts₀.inb_S512x2048_S512x128_0_1536 z
  · exact turn_keys _ _ _ _ 1408 rfl Facts₀.inb_S512x2048_S512x128_0_1408 z
  · exact plain_keys _ _ _ _ 1280 640 rfl rfl Facts₀.slices_S512x2048_o0_640_S512x128 Facts₀.inb_S512x2048_S512x128_0_1280 z
  · exact turn_keys _ _ _ _ 1152 rfl Facts₀.inb_S512x2048_S512x128_0_1152 z
  · exact plain_keys _ _ _ _ 1024 512 rfl rfl Facts₀.slices_S512x2048_o0_512_S512x128 Facts₀.inb_S512x2048_S512x128_0_1024 z
  · exact turn_keys _ _ _ _ 896 rfl Facts₀.inb_S512x2048_S512x128_0_896 z
  · exact plain_keys _ _ _ _ 768 384 rfl rfl Facts₀.slices_S512x2048_o0_384_S512x128 Facts₀.inb_S512x2048_S512x128_0_768 z
  · exact turn_keys _ _ _ _ 640 rfl Facts₀.inb_S512x2048_S512x128_0_640 z
  · exact plain_keys _ _ _ _ 512 256 rfl rfl Facts₀.slices_S512x2048_o0_256_S512x128 Facts₀.inb_S512x2048_S512x128_0_512 z
  · exact turn_keys _ _ _ _ 384 rfl Facts₀.inb_S512x2048_S512x128_0_384 z
  · exact plain_keys _ _ _ _ 256 128 rfl rfl Facts₀.slices_S512x2048_o0_128_S512x128 Facts₀.inb_S512x2048_S512x128_0_256 z
  · exact turn_keys _ _ _ _ 128 rfl Facts₀.inb_S512x2048_S512x128_0_128 z
  · exact plain_keys _ _ _ _ 0 0 rfl rfl Facts₀.slices_S512x2048_o0_0_S512x128 Facts₀.inb_S512x2048_S512x128_0_0 z

theorem out11_apply (y : S512x1024.Idx) : out0_11 (F := Ideal) x0 x1 x2 x3 x4 x5 x6 x7 x8 y
    = k0_pay34 x1 x4 x6 (ix2 (y 0) ⟨1024 + (y 1).val, by have := (y 1).isLt; have : S512x1024.size 1 = 1024 := rfl; omega⟩) := by
  have h1 : View.ld x1 r0_20 = x1 := View.ld_unit_lit _ _ (by decide)
  have h4 : View.ld x4 r0_21 = x4 := View.ld_unit_lit _ _ (by decide)
  have h6 : View.ld x6 r0_22 = x6 := View.ld_unit_lit _ _ (by decide)
  unfold_out out0_11
  rw [h1, h4, h6]
  refine (Value.canon11_eq x1 x4 x6 y).trans ?_
  refine congrArg (k0_pay34 x1 x4 x6) (funext fun (a : Fin 2) => Fin.ext ?_)
  match a with
  | 0 => rfl
  | 1 => exact Nat.add_comm _ _

end

end Cert.Latents
-- ==== Proof.Latents.Host.lean ====
/- What the host prepares before the launch of the latent projections, entry by entry. -/
module

public import proofs.«01_k».proof.Proof.Latents.Row
public import Idealize.ShloMosaic.Lib.Claim
public import Idealize.ShloMosaic.Lib.StableHlo.RunRead

@[expose] public section

set_option maxRecDepth 16384

noncomputable section

namespace Cert.Latents

open Cert.LatentsIdeal Cert.LatentsIdeal.Gen
open Idealize.ShloMosaic Idealize.ShloMosaic.TcCoe Idealize.SL.Sem

variable (m : (ℓ : Loc nD τ sig) → Buf (Elt Ideal) ℓ) (c : Dev nD)

/-- The angle of each pair of columns at each place: the place times θ to the power minus the pair's share. -/
def angles : FVec Ideal S2048x32 .f32 :=
  mulf (broadcastInDim S2048x32 ![0, 1] Facts₀.bcast_S2048x1_S2048x32_0_1 (broadcastInDim S2048x1 ![0] Facts₀.bcast_S2048_S2048x1_0 (sitofp .f32 (iotaInDim S2048 32 0))))
    (broadcastInDim S2048x32 ![0, 1] Facts₀.bcast_S1x32_S2048x32_0_1 (broadcastInDim S1x32 ![1] Facts₀.bcast_S32_S1x32_1
      (Host.powf (broadcastInDim S32 ![] Facts₀.bcast_S_S32 (constant S_ .f32 0x461C4000#32))
        (Host.divf (Host.negf (sitofp .f32 (iotaInDim S32 32 0))) (broadcastInDim S32 ![] Facts₀.bcast_S_S32 (constant S_ .f32 0x42000000#32))))))

theorem read_cos : (V m c main_v16 : Vec Ideal S2048x128 .f32)
    = concatenate S2048x128 1 [⟨S2048x32, Host.cos angles⟩, ⟨S2048x32, Host.cos angles⟩, ⟨S2048x64, broadcastInDim S2048x64 ![] Facts₀.bcast_S_S2048x64 (constant S_ .f32 0x3F800000#32 : FVec Ideal S_ .f32)⟩]
      Facts₀.concatenates_S2048x32_S2048x32_S2048x64_S2048x128_d1 := by
  unfold_abbrev_sides
  after_reads_simp
  rfl

theorem read_sin : (V m c main_v19 : Vec Ideal S2048x128 .f32)
    = concatenate S2048x128 1 [⟨S2048x32, Host.negf (Host.sin angles)⟩, ⟨S2048x32, Host.sin angles⟩, ⟨S2048x64, broadcastInDim S2048x64 ![] Facts₀.bcast_S_S2048x64 (constant S_ .f32 0x00000000#32 : FVec Ideal S_ .f32)⟩]
      Facts₀.concatenates_S2048x32_S2048x32_S2048x64_S2048x128_d1 := by
  unfold_abbrev_sides
  after_reads_simp
  rfl

/-- The cosine of each lane of a rotary tile: a pair's two lanes share it, and the lanes after the 64 hold one. -/
def cosAt (a : Fin 32 → EReal) (l : Fin 128) : EReal :=
  if h : l.val < 32 then Ideal.cos (a ⟨l.val, h⟩) else if h : l.val - 32 < 32 then Ideal.cos (a ⟨l.val - 32, h⟩) else 1

/-- The signed sine of each lane of a rotary tile: negative in the first half, and zero after the 64 lanes. -/
def sinAt (a : Fin 32 → EReal) (l : Fin 128) : EReal :=
  if h : l.val < 32 then -Ideal.sin (a ⟨l.val, h⟩) else if h : l.val - 32 < 32 then Ideal.sin (a ⟨l.val - 32, h⟩) else 0

theorem entry_cos (t : Fin 2048) (l : Fin 128) : (V m c main_v16 : Vec Ideal S2048x128 .f32) (ix2 t l) = cosAt (fun d => angles (ix2 t d)) l := by
  rw [read_cos]
  unfold cosAt
  pointwise

theorem entry_sin (t : Fin 2048) (l : Fin 128) : (V m c main_v19 : Vec Ideal S2048x128 .f32) (ix2 t l) = sinAt (fun d => angles (ix2 t d)) l := by
  rw [read_sin]
  unfold sinAt
  pointwise

theorem entry_gq (k : Fin 512) : (V m c main_v36 : Vec Ideal S1x512 .f32) (ix2 0 k)
    = (m ((c.tc : Thread nD τ).loc main_arg1) : Vec Ideal S1x512 .f32) (ix2 0 k) := by
  entry_read
  pointwise

theorem entry_gkv (k : Fin 256) : (V m c main_v37 : Vec Ideal S1x256 .f32) (ix2 0 k)
    = (m ((c.tc : Thread nD τ).loc main_arg3) : Vec Ideal S1x256 .f32) (ix2 0 k) := by
  entry_read
  pointwise

/-- The up-projection of the query latent over its heads of 192 columns, each padded with zero columns to 256. -/
theorem entry_wq (k : Fin 512) (j : Fin 2048) : (V m c main_v27 : Vec Ideal S512x2048 .bf16) (ix2 k j)
    = if h : j.val % 256 < 192 then (m ((c.tc : Thread nD τ).loc main_arg2) : Vec Ideal S1x512x1536 .f32) (ix3 0 k ⟨j.val / 256 * 192 + j.val % 256, by omega⟩) else (0 : EReal) := by
  entry_read
  pointwise

/-- The up-projection of the key-value latent: the heads' key columns, then the heads' value columns. -/
theorem entry_wkv (k : Fin 256) (j : Fin 2048) : (V m c main_v35 : Vec Ideal S256x2048 .bf16) (ix2 k j)
    = if h : j.val < 1024 then (m ((c.tc : Thread nD τ).loc main_arg4) : Vec Ideal S1x256x2048 .f32) (ix3 0 k ⟨j.val / 128 * 256 + j.val % 128, by omega⟩)
      else (m ((c.tc : Thread nD τ).loc main_arg4) : Vec Ideal S1x256x2048 .f32) (ix3 0 k ⟨(j.val - 1024) / 128 * 256 + (128 + (j.val - 1024) % 128), by omega⟩) := by
  entry_read
  pointwise

theorem tile_rotated (x : Fin 128 → EReal) (a : Fin 32 → EReal) (hx : ∀ l : Fin 128, 64 ≤ l.val → x l = 0) (l : Fin 128) :
    tile x (cosAt a) (sinAt a) l = if h : l.val < 64 then rotated (fun d => x ⟨d.val, by omega⟩) a ⟨l.val, h⟩ else 0 := by
  unfold tile partner cosAt sinAt rotated
  by_cases h : l.val < 32
  · simp only [h, if_true, dif_pos, show l.val < 64 by omega, show (l.val + 32) % 128 = l.val + 32 by omega]
    rw [mul_neg, sub_eq_add_neg]
  · by_cases h' : l.val < 64
    · simp only [h, if_false, h', dif_pos, show l.val - 32 < 32 by omega, dite_false]
    · simp only [h, if_false, h', show ¬ l.val - 32 < 32 by omega, dite_false]
      rw [hx l (by omega)]
      simp

/-- The scale of the queries is a positive real. -/
theorem scale_bounds : 0 ≤ Ideal.ofBits .f32 0x3DD53B95#32 ∧ Ideal.ofBits .f32 0x3DD53B95#32 ≠ ⊤ := by
  have h : Ideal.ofBits .f32 0x3DD53B95#32 = (((13974421 : ℝ) / 134217728 : ℝ) : EReal) := by
    simp [Ideal.ofBits, Ideal.ieee, -EReal.coe_mul]; norm_num
  rw [h]
  exact ⟨EReal.coe_nonneg.mpr (by norm_num), EReal.coe_ne_top _⟩

theorem rotated_scale (x : Fin 64 → EReal) (a : Fin 32 → EReal) (d : Fin 64) (s : EReal) (h0 : 0 ≤ s) (ht : s ≠ ⊤) :
    rotated (fun d => x d * s) a d = rotated x a d * s := by
  unfold rotated
  split
  · rw [sub_eq_add_neg, sub_eq_add_neg, EReal.right_distrib_of_nonneg_of_ne_top h0 ht, EReal.neg_mul]
    congr 1
    · exact mul_right_comm _ _ _
    · exact congrArg Neg.neg (mul_right_comm _ _ _)
  · rw [EReal.right_distrib_of_nonneg_of_ne_top h0 ht]
    congr 1 <;> exact mul_right_comm _ _ _

end Cert.Latents
-- ==== Proof.Latents.Blocks.lean ====
/- The blocks of the windows as parts of the arguments, and the three results of the latent projections in closed form. -/
module

public import proofs.«01_k».proof.Proof.Latents.Host
public import proofs.«01_k».proof.Proof.Merge.Blocks

@[expose] public section

set_option maxRecDepth 16384

noncomputable section

namespace Cert.Latents

open Cert.LatentsIdeal Cert.LatentsIdeal.Gen
open Idealize.ShloMosaic Idealize.ShloMosaic.TcCoe Idealize.SL.Sem
open Cert.Merge (place ix2_of)

section
variable (u : Vec Ideal S8192x13312 .bf16) (gq : Vec Ideal S1x512 .f32) (wq : Vec Ideal S1x512x1536 .f32) (gkv : Vec Ideal S1x256 .f32)
    (wkv : Vec Ideal S1x256x2048 .f32)

/-- The normalised query latent of a row times a column of its up-projection. -/
def query (r : Fin 8192) (n : Fin 1536) : EReal :=
  ∑ k : Fin 512, hidden (fun k : Fin 512 => u (ix2 r ⟨11264 + k.val, by omega⟩)) (fun k => gq (ix2 0 k)) (Ideal.ofBits .f32 0x44000000#32) k * wq (ix3 0 k n)

/-- The normalised key-value latent of a row times a column of its up-projection. -/
def keyvalue (r : Fin 8192) (n : Fin 2048) : EReal :=
  ∑ k : Fin 256, hidden (fun k : Fin 256 => u (ix2 r ⟨11776 + k.val, by omega⟩)) (fun k => gkv (ix2 0 k)) (Ideal.ofBits .f32 0x43800000#32) k * wkv (ix3 0 k n)

/-- The queries: each head's 192 columns, the last 64 of them rotated, padded to 256 and scaled. -/
def resultQ : Vec Ideal S8192x2048 .bf16 := fun i =>
  have h : (i 1).val < 2048 := (i 1).isLt
  head (fun e => query u gq wq (i 0) ⟨(i 1).val / 256 * 192 + e.val, by omega⟩) (fun d => query u gq wq (i 0) ⟨(i 1).val / 256 * 192 + (128 + d.val), by omega⟩)
    (fun d => angles (ix2 (place (i 0)) d)) ⟨(i 1).val % 256, Nat.mod_lt _ (by omega)⟩ * Ideal.ofBits .f32 0x3DD53B95#32

/-- The keys: each head's own 128 columns and the 64 rotated ones that the heads share, padded to 256. -/
def resultK : Vec Ideal S8192x2048 .bf16 := fun i =>
  have h : (i 1).val < 2048 := (i 1).isLt
  head (fun e => keyvalue u gkv wkv (i 0) ⟨(i 1).val / 256 * 256 + e.val, by omega⟩) (fun d => u (ix2 (i 0) ⟨12032 + d.val, by omega⟩))
    (fun d => angles (ix2 (place (i 0)) d)) ⟨(i 1).val % 256, Nat.mod_lt _ (by omega)⟩

/-- The values: each head's 128 columns. -/
def resultV : Vec Ideal S8192x1024 .bf16 := fun i =>
  have h : (i 1).val < 1024 := (i 1).isLt
  keyvalue u gkv wkv (i 0) ⟨(i 1).val / 128 * 256 + (128 + (i 1).val % 128), by omega⟩

end

variable (m : (ℓ : Loc nD τ sig) → Buf (Elt Ideal) ℓ) (c : Dev nD)

theorem maps : ∀ t : Fin grid0.N, cc0_transform_0 (grid0.coords t) = ![t.val, 22] ∧ cc0_transform_1 (grid0.coords t) = ![t.val, 46]
    ∧ cc0_transform_2 (grid0.coords t) = ![t.val, 47] ∧ cc0_transform_3 (grid0.coords t) = ![0, 0] ∧ cc0_transform_7 (grid0.coords t) = ![t.val % 4, 0]
    ∧ cc0_transform_9 (grid0.coords t) = ![t.val, 0] := by decide +kernel

theorem lt_N (t : Fin grid0.N) : t.val < 16 := Nat.lt_of_lt_of_eq t.isLt N_0

section
variable (t : Fin grid0.N) (r : Fin 8192) (p : Fin 512) (h : r.val = t.val * 512 + p.val)

theorem whole_at (a : Fin 2) (w k : ℕ) : cc0_transform_3 (grid0.coords t) a * w + 1 * k = k := by
  rw [(maps t).2.2.2.1]
  match a with
  | 0 => simp
  | 1 => simp

include h in
theorem block_cq (k : Fin 512) : (iblk m c 0 t : Vec Ideal S512x512 .bf16) (ix2 p k)
    = (m ((c.tc : Thread nD τ).loc main_arg0) : Vec Ideal S8192x13312 .bf16) (ix2 r ⟨11264 + k.val, by omega⟩) := by
  refine (congrArg (V m c main_arg0 : Vec Ideal S8192x13312 .bf16) (ix2_of _ r ⟨11264 + k.val, by omega⟩ ?_ ?_)).trans ?_
  · show cc0_transform_0 (grid0.coords t) 0 * 512 + 1 * p.val = r.val
    rw [(maps t).1, h]; simp
  · show cc0_transform_0 (grid0.coords t) 1 * 512 + 1 * k.val = 11264 + k.val
    rw [(maps t).1]; simp
  · rw [V_main_arg0]

include h in
theorem block_ckv (k : Fin 256) : (iblk m c 1 t : Vec Ideal S512x256 .bf16) (ix2 p k)
    = (m ((c.tc : Thread nD τ).loc main_arg0) : Vec Ideal S8192x13312 .bf16) (ix2 r ⟨11776 + k.val, by omega⟩) := by
  refine (congrArg (V m c main_arg0 : Vec Ideal S8192x13312 .bf16) (ix2_of _ r ⟨11776 + k.val, by omega⟩ ?_ ?_)).trans ?_
  · show cc0_transform_1 (grid0.coords t) 0 * 512 + 1 * p.val = r.val
    rw [(maps t).2.1, h]; simp
  · show cc0_transform_1 (grid0.coords t) 1 * 256 + 1 * k.val = 11776 + k.val
    rw [(maps t).2.1]; simp
  · rw [V_main_arg0]

include h in
theorem block_kr (k : Fin 256) : (iblk m c 2 t : Vec Ideal S512x256 .bf16) (ix2 p k)
    = (m ((c.tc : Thread nD τ).loc main_arg0) : Vec Ideal S8192x13312 .bf16) (ix2 r ⟨12032 + k.val, by omega⟩) := by
  refine (congrArg (V m c main_arg0 : Vec Ideal S8192x13312 .bf16) (ix2_of _ r ⟨12032 + k.val, by omega⟩ ?_ ?_)).trans ?_
  · show cc0_transform_2 (grid0.coords t) 0 * 512 + 1 * p.val = r.val
    rw [(maps t).2.2.1, h]; simp
  · show cc0_transform_2 (grid0.coords t) 1 * 256 + 1 * k.val = 12032 + k.val
    rw [(maps t).2.2.1]; simp
  · rw [V_main_arg0]

theorem block_gq (k : Fin 512) : (iblk m c 3 t : Vec Ideal S1x512 .f32) (ix2 0 k)
    = (m ((c.tc : Thread nD τ).loc main_arg1) : Vec Ideal S1x512 .f32) (ix2 0 k) :=
  (congrArg (V m c main_v36 : Vec Ideal S1x512 .f32) (ix2_of _ 0 k (whole_at t 0 1 0) (whole_at t 1 512 k.val))).trans (entry_gq m c k)

theorem block_gkv (k : Fin 256) : (iblk m c 4 t : Vec Ideal S1x256 .f32) (ix2 0 k)
    = (m ((c.tc : Thread nD τ).loc main_arg3) : Vec Ideal S1x256 .f32) (ix2 0 k) :=
  (congrArg (V m c main_v37 : Vec Ideal S1x256 .f32) (ix2_of _ 0 k (whole_at t 0 1 0) (whole_at t 1 256 k.val))).trans (entry_gkv m c k)

theorem block_wq (k : Fin 512) (j : Fin 2048) : (iblk m c 5 t : Vec Ideal S512x2048 .bf16) (ix2 k j) = (V m c main_v27 : Vec Ideal S512x2048 .bf16) (ix2 k j) :=
  congrArg (V m c main_v27 : Vec Ideal S512x2048 .bf16) (ix2_of _ k j (whole_at t 0 512 k.val) (whole_at t 1 2048 j.val))

theorem block_wkv (k : Fin 256) (j : Fin 2048) : (iblk m c 6 t : Vec Ideal S256x2048 .bf16) (ix2 k j) = (V m c main_v35 : Vec Ideal S256x2048 .bf16) (ix2 k j) :=
  congrArg (V m c main_v35 : Vec Ideal S256x2048 .bf16) (ix2_of _ k j (whole_at t 0 256 k.val) (whole_at t 1 2048 j.val))

include h in
theorem block_cos (l : Fin 128) : (iblk m c 7 t : Vec Ideal S512x128 .f32) (ix2 p l) = cosAt (fun d => angles (ix2 (place r) d)) l := by
  refine (congrArg (V m c main_v16 : Vec Ideal S2048x128 .f32) (ix2_of _ (place r) l ?_ ?_)).trans (entry_cos m c (place r) l)
  · show cc0_transform_7 (grid0.coords t) 0 * 512 + 1 * p.val = r.val % 2048
    rw [(maps t).2.2.2.2.1, h]
    show t.val % 4 * 512 + 1 * p.val = (t.val * 512 + p.val) % 2048
    omega
  · show cc0_transform_7 (grid0.coords t) 1 * 128 + 1 * l.val = l.val
    rw [(maps t).2.2.2.2.1]; simp

include h in
theorem block_sin (l : Fin 128) : (iblk m c 8 t : Vec Ideal S512x128 .f32) (ix2 p l) = sinAt (fun d => angles (ix2 (place r) d)) l := by
  refine (congrArg (V m c main_v19 : Vec Ideal S2048x128 .f32) (ix2_of _ (place r) l ?_ ?_)).trans (entry_sin m c (place r) l)
  · show cc0_transform_7 (grid0.coords t) 0 * 512 + 1 * p.val = r.val % 2048
    rw [(maps t).2.2.2.2.1, h]
    show t.val % 4 * 512 + 1 * p.val = (t.val * 512 + p.val) % 2048
    omega
  · show cc0_transform_7 (grid0.coords t) 1 * 128 + 1 * l.val = l.val
    rw [(maps t).2.2.2.2.1]; simp

include h in
/-- A column of the query block before the rotation: the head's column of the product, scaled, or the padding's zero. -/
theorem product_q (j : Fin 2048) : k0_pay8 (F := Ideal) (iblk m c 0 t) (iblk m c 3 t) (iblk m c 5 t) (ix2 p j)
    = (if hj : j.val % 256 < 192 then query (m ((c.tc : Thread nD τ).loc main_arg0)) (m ((c.tc : Thread nD τ).loc main_arg1)) (m ((c.tc : Thread nD τ).loc main_arg2)) r ⟨j.val / 256 * 192 + j.val % 256, by omega⟩ else 0)
      * Ideal.ofBits .f32 0x3DD53B95#32 := by
  refine (norm_q _ _ _ _).trans (congrArg (fun s : EReal => s * Ideal.ofBits .f32 0x3DD53B95#32) ?_)
  have e0 := funext (block_cq m c t r p h)
  have e1 := funext (block_gq m c t)
  show (∑ k : Fin 512, hidden (fun k => (iblk m c 0 t : Vec Ideal S512x512 .bf16) (ix2 p k)) (fun k => (iblk m c 3 t : Vec Ideal S1x512 .f32) (ix2 0 k)) _ k * (iblk m c 5 t : Vec Ideal S512x2048 .bf16) (ix2 k j)) = _
  rw [e0, e1]
  split
  · next hj =>
    exact Finset.sum_congr rfl fun k _ => congrArg (fun s : EReal => _ * s) ((block_wq m c t k j).trans ((entry_wq m c k j).trans (dif_pos hj)))
  · next hj =>
    exact Finset.sum_eq_zero fun k _ => (congrArg (fun s : EReal => _ * s) ((block_wq m c t k j).trans ((entry_wq m c k j).trans (dif_neg hj)))).trans (mul_zero _)

include h in
theorem product_kv (j : Fin 2048) : k0_pay34 (F := Ideal) (iblk m c 1 t) (iblk m c 4 t) (iblk m c 6 t) (ix2 p j)
    = if hj : j.val < 1024 then keyvalue (m ((c.tc : Thread nD τ).loc main_arg0)) (m ((c.tc : Thread nD τ).loc main_arg3)) (m ((c.tc : Thread nD τ).loc main_arg4)) r ⟨j.val / 128 * 256 + j.val % 128, by omega⟩
      else keyvalue (m ((c.tc : Thread nD τ).loc main_arg0)) (m ((c.tc : Thread nD τ).loc main_arg3)) (m ((c.tc : Thread nD τ).loc main_arg4)) r ⟨(j.val - 1024) / 128 * 256 + (128 + (j.val - 1024) % 128), by omega⟩ := by
  refine (norm_kv _ _ _ _).trans ?_
  have e0 := funext (block_ckv m c t r p h)
  have e1 := funext (block_gkv m c t)
  show (∑ k : Fin 256, hidden (fun k => (iblk m c 1 t : Vec Ideal S512x256 .bf16) (ix2 p k)) (fun k => (iblk m c 4 t : Vec Ideal S1x256 .f32) (ix2 0 k)) _ k * (iblk m c 6 t : Vec Ideal S256x2048 .bf16) (ix2 k j)) = _
  rw [e0, e1]
  split
  · next hj =>
    exact Finset.sum_congr rfl fun k _ => congrArg (fun s : EReal => _ * s) ((block_wkv m c t k j).trans ((entry_wkv m c k j).trans (dif_pos hj)))
  · next hj =>
    exact Finset.sum_congr rfl fun k _ => congrArg (fun s : EReal => _ * s) ((block_wkv m c t k j).trans ((entry_wkv m c k j).trans (dif_neg hj)))

end

/-- The results over the arguments as launched. -/
def finalQ : Vec Ideal S8192x2048 .bf16 := resultQ (m ((c.tc : Thread nD τ).loc main_arg0)) (m ((c.tc : Thread nD τ).loc main_arg1)) (m ((c.tc : Thread nD τ).loc main_arg2))
def finalK : Vec Ideal S8192x2048 .bf16 := resultK (m ((c.tc : Thread nD τ).loc main_arg0)) (m ((c.tc : Thread nD τ).loc main_arg3)) (m ((c.tc : Thread nD τ).loc main_arg4))
def finalV : Vec Ideal S8192x1024 .bf16 := resultV (m ((c.tc : Thread nD τ).loc main_arg0)) (m ((c.tc : Thread nD τ).loc main_arg3)) (m ((c.tc : Thread nD τ).loc main_arg4))

section
variable (t : Fin grid0.N)

/-- What grid point `t` leaves in its query block is that block of rows of the queries. -/
theorem block_q (y : S512x2048.Idx) (i : S8192x2048.Idx) (h0 : (i 0).val = t.val * 512 + (y 0).val) (h1 : (i 1).val = (y 1).val) :
    (dats m 0 c).after 9 t y = finalQ m c i := by
  rw [after0_9]
  refine (out9_apply _ _ _ _ _ _ _ _ _ y).trans ?_
  have hy : (y 1).val < 2048 := (y 1).isLt
  have hP := product_q m c t (i 0) (y 0) h0
  unfold finalQ resultQ queries head
  dsimp only
  by_cases h : (y 1).val % 256 < 128
  · rw [if_pos h, dif_pos (by rw [h1]; exact h)]
    refine (congrArg _ (ix2_of y (y 0) (y 1) rfl rfl)).trans ((hP (y 1)).trans ?_)
    rw [dif_pos (by omega)]
    simp only [h1]
  · rw [if_neg h, dif_neg (by rw [h1]; exact h)]
    have e7 := block_cos m c t (i 0) (y 0) h0
    have e8 := block_sin m c t (i 0) (y 0) h0
    refine (tile_congr (fun l => hP _) e7 e8 rfl).trans ?_
    rw [tile_rotated]
    · simp only [h1]
      by_cases h' : (y 1).val % 256 < 192
      · rw [dif_pos (show (y 1).val % 128 < 64 by omega), dif_pos h']
        refine Eq.trans ?_ (rotated_scale _ _ _ _ scale_bounds.1 scale_bounds.2)
        congr 1
        · funext d
          rw [dif_pos (by (try dsimp only); omega)]
          congr 3
          omega
        · exact Fin.ext (by show (y 1).val % 128 = (y 1).val % 256 - 128; omega)
      · rw [dif_neg (show ¬ (y 1).val % 128 < 64 by omega), dif_neg h', zero_mul]
    · intro l hl
      rw [dif_neg (by (try dsimp only); omega), zero_mul]

theorem block_k (y : S512x2048.Idx) (i : S8192x2048.Idx) (h0 : (i 0).val = t.val * 512 + (y 0).val) (h1 : (i 1).val = (y 1).val) :
    (dats m 0 c).after 10 t y = finalK m c i := by
  rw [after0_10]
  refine (out10_apply _ _ _ _ _ _ _ _ _ y).trans ?_
  have hy : (y 1).val < 2048 := (y 1).isLt
  have hP := product_kv m c t (i 0) (y 0) h0
  unfold finalK resultK keys head
  dsimp only
  by_cases h : (y 1).val % 256 < 128
  · rw [if_pos h, dif_pos (by rw [h1]; exact h)]
    refine (hP _).trans ?_
    rw [dif_pos (by (try dsimp only); omega)]
    congr 2
    dsimp only
    omega
  · rw [if_neg h, dif_neg (by rw [h1]; exact h)]
    have e7 := block_cos m c t (i 0) (y 0) h0
    have e8 := block_sin m c t (i 0) (y 0) h0
    refine (tile_congr (fun l => rfl) e7 e8 rfl).trans ?_
    rw [tile_rotated]
    · simp only [h1]
      by_cases h' : (y 1).val % 256 < 192
      · rw [dif_pos (show (y 1).val % 128 < 64 by omega), dif_pos h']
        congr 1
        · funext d
          refine (if_pos (show d.val < 64 from d.isLt)).trans ?_
          exact block_kr m c t (i 0) (y 0) h0 _
        · exact Fin.ext (by show (y 1).val % 128 = (y 1).val % 256 - 128; omega)
      · rw [dif_neg (show ¬ (y 1).val % 128 < 64 by omega), dif_neg h']
    · intro l hl
      exact if_neg (show ¬ l.val < 64 by omega)

theorem block_v (y : S512x1024.Idx) (i : S8192x1024.Idx) (h0 : (i 0).val = t.val * 512 + (y 0).val) (h1 : (i 1).val = (y 1).val) :
    (dats m 0 c).after 11 t y = finalV m c i := by
  rw [after0_11]
  refine (out11_apply _ _ _ _ _ _ _ _ _ y).trans ?_
  have hy : (y 1).val < 1024 := (y 1).isLt
  refine (product_kv m c t (i 0) (y 0) h0 _).trans ?_
  unfold finalV resultV
  dsimp only
  rw [dif_neg (by omega)]
  congr 2
  omega

/-- The blocks of the results that point `t` writes, at an index. -/
theorem emb_q (y : S512x2048.Idx) (a : Fin 2) : (((cfg0.win 9).blk t).view.emb y a : Fin _).val = ![t.val * 512 + (y 0).val, (y 1).val] a := by
  match a with
  | 0 =>
    show cc0_transform_9 (grid0.coords t) 0 * 512 + 1 * (y 0).val = _
    rw [(maps t).2.2.2.2.2]; simp
  | 1 =>
    show cc0_transform_9 (grid0.coords t) 1 * 2048 + 1 * (y 1).val = _
    rw [(maps t).2.2.2.2.2]; simp

theorem emb_k (y : S512x2048.Idx) (a : Fin 2) : (((cfg0.win 10).blk t).view.emb y a : Fin _).val = ![t.val * 512 + (y 0).val, (y 1).val] a := emb_q t y a

theorem emb_v (y : S512x1024.Idx) (a : Fin 2) : (((cfg0.win 11).blk t).view.emb y a : Fin _).val = ![t.val * 512 + (y 0).val, (y 1).val] a := by
  match a with
  | 0 =>
    show cc0_transform_9 (grid0.coords t) 0 * 512 + 1 * (y 0).val = _
    rw [(maps t).2.2.2.2.2]; simp
  | 1 =>
    show cc0_transform_9 (grid0.coords t) 1 * 1024 + 1 * (y 1).val = _
    rw [(maps t).2.2.2.2.2]; simp

end

/-- The grid point that writes a row. -/
def point (r : Fin 8192) : Fin cfg0.N := ⟨r.val / 512, by show _ < grid0.N; rw [N_0]; omega⟩

theorem arr_q : (dats m 0 c).arrAt 9 cfg0.N = finalQ m c := by
  refine (dats m 0 c).arrAt_eq_of_emb 9 _ (fun t _ y => ?_) fun (i : S8192x2048.Idx) => ?_
  · refine Eq.trans ?_ (block_q m c t y _ (emb_q t y 0) (emb_q t y 1))
    rfl
  refine ⟨point (i 0), flush0_9 _, ?_⟩
  have e : ((cfg0.win 9).blk (point (i 0))).view.emb (ix2 ⟨(i 0).val % 512, by omega⟩ (i 1) : S512x2048.Idx) = i := by
    refine funext fun (a : Fin 2) => Fin.ext ((emb_q _ _ a).trans ?_)
    match a with
    | 0 => show (i 0).val / 512 * 512 + (i 0).val % 512 = (i 0).val
           omega
    | 1 => rfl
  exact (congrArg (fun j => j ∈ ((cfg0.win 9).blk (point (i 0))).view.set) e).mp (View.emb_mem_set _ _)

theorem arr_k : (dats m 0 c).arrAt 10 cfg0.N = finalK m c := by
  refine (dats m 0 c).arrAt_eq_of_emb 10 _ (fun t _ y => ?_) fun (i : S8192x2048.Idx) => ?_
  · refine Eq.trans ?_ (block_k m c t y _ (emb_k t y 0) (emb_k t y 1))
    rfl
  refine ⟨point (i 0), flush0_10 _, ?_⟩
  have e : ((cfg0.win 10).blk (point (i 0))).view.emb (ix2 ⟨(i 0).val % 512, by omega⟩ (i 1) : S512x2048.Idx) = i := by
    refine funext fun (a : Fin 2) => Fin.ext ((emb_k _ _ a).trans ?_)
    match a with
    | 0 => show (i 0).val / 512 * 512 + (i 0).val % 512 = (i 0).val
           omega
    | 1 => rfl
  exact (congrArg (fun j => j ∈ ((cfg0.win 10).blk (point (i 0))).view.set) e).mp (View.emb_mem_set _ _)

theorem arr_v : (dats m 0 c).arrAt 11 cfg0.N = finalV m c := by
  refine (dats m 0 c).arrAt_eq_of_emb 11 _ (fun t _ y => ?_) fun (i : S8192x1024.Idx) => ?_
  · refine Eq.trans ?_ (block_v m c t y _ (emb_v t y 0) (emb_v t y 1))
    rfl
  refine ⟨point (i 0), flush0_11 _, ?_⟩
  have e : ((cfg0.win 11).blk (point (i 0))).view.emb (ix2 ⟨(i 0).val % 512, by omega⟩ (i 1) : S512x1024.Idx) = i := by
    refine funext fun (a : Fin 2) => Fin.ext ((emb_v _ _ a).trans ?_)
    match a with
    | 0 => show (i 0).val / 512 * 512 + (i 0).val % 512 = (i 0).val
           omega
    | 1 => rfl
  exact (congrArg (fun j => j ∈ ((cfg0.win 11).blk (point (i 0))).view.set) e).mp (View.emb_mem_set _ _)

end Cert.Latents
-- ==== Proof.Latents.Reference.lean ====
/- The reference of the latent projections, entry by entry. -/
module

public import proofs.«01_k».proof.Proof.Latents.Blocks
public import proofs.«01_k».proof.Proof.Gen.LatentsReferenceIdeal.Run

@[expose] public section

set_option maxRecDepth 16384

noncomputable section

namespace Cert.Latents

open Idealize.ShloMosaic Idealize.ShloMosaic.TcCoe Idealize.SL.Sem Cert.LatentsReferenceIdeal Cert.LatentsReferenceIdeal.Facts₀
open Cert.Merge (batch place)

section
variable (u : FVec Ideal S8192x13312 .bf16)

/-- The query latent's columns of the input. -/
def latentQ : FVec Ideal S4x2048x512 .f32 :=
  extf .f32 (shapeCast _ (extractStridedSlice S8192x512 ![0, 11264] u slices_S8192x13312_S8192x512_0_11264) shapeCasts_S8192x512_S4x2048x512) bitsLt_bf16_f32

/-- The key-value latent's columns of the input. -/
def latentKV : FVec Ideal S4x2048x256 .f32 :=
  extf .f32 (shapeCast _ (extractStridedSlice S8192x256 ![0, 11776] u slices_S8192x13312_S8192x256_0_11776) shapeCasts_S8192x256_S4x2048x256) bitsLt_bf16_f32

/-- The rotary key's columns of the input. -/
def rotary : FVec Ideal S4x2048x1x64 .f32 :=
  broadcastInDim S4x2048x1x64 ![0, 1, 3] bcast_S4x2048x64_S4x2048x1x64_0_1_3
    (shapeCast _ (extf .f32 (extractStridedSlice S8192x64 ![0, 12032] u slices_S8192x13312_S8192x64_0_12032) bitsLt_bf16_f32) shapeCasts_S8192x64_S4x2048x64)

/-- The normalised query latent times its up-projection, head by head. -/
def headsQ (x : FVec Ideal S4x2048x512 .f32) (g : FVec Ideal S1x512 .f32) (w : FVec Ideal S1x512x1536 .f32) : FVec Ideal S4x2048x8x192 .f32 :=
  shapeCast _ (Host.dotGeneral dot_S4x2048x512_S512x1536_S4x2048x1536_2_0_01_1_n_n none (extf .f32 (truncf .bf16 (mulf (mulf x
    (broadcastInDim S4x2048x512 ![0, 1, 2] bcast_S4x2048x1_S4x2048x512_0_1_2 (Host.rsqrt (addf (Host.divf (broadcastInDim S4x2048x1 ![0, 1] bcast_S4x2048_S4x2048x1_0_1
      (Host.reduceAdd (mulf x x) (constant S_ .f32 0x00000000#32) reducesTo_S4x2048x512_S4x2048_d2 h_S_)) (broadcastInDim S4x2048x1 ![] bcast_S_S4x2048x1 (constant S_ .f32 0x44000000#32)))
      (broadcastInDim S4x2048x1 ![] bcast_S_S4x2048x1 (constant S_ .f32 0x358637BD#32))))))
    (broadcastInDim S4x2048x512 ![0, 1, 2] bcast_S1x1x512_S4x2048x512_0_1_2 (broadcastInDim S1x1x512 ![2] bcast_S512_S1x1x512_2 (shapeCast _ g shapeCasts_S1x512_S512)))) bitsLt_bf16_f32) bitsLt_bf16_f32)
    (shapeCast _ w shapeCasts_S1x512x1536_S512x1536)) shapeCasts_S4x2048x1536_S4x2048x8x192

/-- The normalised key-value latent times its up-projection, head by head. -/
def headsKV (x : FVec Ideal S4x2048x256 .f32) (g : FVec Ideal S1x256 .f32) (w : FVec Ideal S1x256x2048 .f32) : FVec Ideal S4x2048x8x256 .f32 :=
  shapeCast _ (Host.dotGeneral dot_S4x2048x256_S256x2048_S4x2048x2048_2_0_01_1_n_n none (extf .f32 (truncf .bf16 (mulf (mulf x
    (broadcastInDim S4x2048x256 ![0, 1, 2] bcast_S4x2048x1_S4x2048x256_0_1_2 (Host.rsqrt (addf (Host.divf (broadcastInDim S4x2048x1 ![0, 1] bcast_S4x2048_S4x2048x1_0_1
      (Host.reduceAdd (mulf x x) (constant S_ .f32 0x00000000#32) reducesTo_S4x2048x256_S4x2048_d2 h_S_)) (broadcastInDim S4x2048x1 ![] bcast_S_S4x2048x1 (constant S_ .f32 0x43800000#32)))
      (broadcastInDim S4x2048x1 ![] bcast_S_S4x2048x1 (constant S_ .f32 0x358637BD#32))))))
    (broadcastInDim S4x2048x256 ![0, 1, 2] bcast_S1x1x256_S4x2048x256_0_1_2 (broadcastInDim S1x1x256 ![2] bcast_S256_S1x1x256_2 (shapeCast _ g shapeCasts_S1x256_S256)))) bitsLt_bf16_f32) bitsLt_bf16_f32)
    (shapeCast _ w shapeCasts_S1x256x2048_S256x2048)) shapeCasts_S4x2048x2048_S4x2048x8x256

/-- The rotation of every head's 64 columns. -/
def rope8 (x : FVec Ideal S4x2048x8x64 .f32) (a : FVec Ideal S2048x32 .f32) : FVec Ideal S4x2048x8x64 .f32 :=
  concatenate S4x2048x8x64 3 [
    ⟨S4x2048x8x32, subf (mulf (extractStridedSlice S4x2048x8x32 ![0, 0, 0, 0] x slices_S4x2048x8x64_S4x2048x8x32_0_0_0_0) (broadcastInDim S4x2048x8x32 ![0, 1, 2, 3] bcast_S1x2048x1x32_S4x2048x8x32_0_1_2_3 (broadcastInDim S1x2048x1x32 ![1, 3] bcast_S2048x32_S1x2048x1x32_1_3 (Host.cos a))))
      (mulf (extractStridedSlice S4x2048x8x32 ![0, 0, 0, 32] x slices_S4x2048x8x64_S4x2048x8x32_0_0_0_32) (broadcastInDim S4x2048x8x32 ![0, 1, 2, 3] bcast_S1x2048x1x32_S4x2048x8x32_0_1_2_3 (broadcastInDim S1x2048x1x32 ![1, 3] bcast_S2048x32_S1x2048x1x32_1_3 (Host.sin a))))⟩,
    ⟨S4x2048x8x32, addf (mulf (extractStridedSlice S4x2048x8x32 ![0, 0, 0, 32] x slices_S4x2048x8x64_S4x2048x8x32_0_0_0_32) (broadcastInDim S4x2048x8x32 ![0, 1, 2, 3] bcast_S1x2048x1x32_S4x2048x8x32_0_1_2_3 (broadcastInDim S1x2048x1x32 ![1, 3] bcast_S2048x32_S1x2048x1x32_1_3 (Host.cos a))))
      (mulf (extractStridedSlice S4x2048x8x32 ![0, 0, 0, 0] x slices_S4x2048x8x64_S4x2048x8x32_0_0_0_0) (broadcastInDim S4x2048x8x32 ![0, 1, 2, 3] bcast_S1x2048x1x32_S4x2048x8x32_0_1_2_3 (broadcastInDim S1x2048x1x32 ![1, 3] bcast_S2048x32_S1x2048x1x32_1_3 (Host.sin a))))⟩]
    concatenates_S4x2048x8x32_S4x2048x8x32_S4x2048x8x64_d3

/-- The rotation of the key's 64 columns. -/
def rope1 (x : FVec Ideal S4x2048x1x64 .f32) (a : FVec Ideal S2048x32 .f32) : FVec Ideal S4x2048x1x64 .f32 :=
  concatenate S4x2048x1x64 3 [
    ⟨S4x2048x1x32, subf (mulf (extractStridedSlice S4x2048x1x32 ![0, 0, 0, 0] x slices_S4x2048x1x64_S4x2048x1x32_0_0_0_0) (broadcastInDim S4x2048x1x32 ![0, 1, 2, 3] bcast_S1x2048x1x32_S4x2048x1x32_0_1_2_3 (broadcastInDim S1x2048x1x32 ![1, 3] bcast_S2048x32_S1x2048x1x32_1_3 (Host.cos a))))
      (mulf (extractStridedSlice S4x2048x1x32 ![0, 0, 0, 32] x slices_S4x2048x1x64_S4x2048x1x32_0_0_0_32) (broadcastInDim S4x2048x1x32 ![0, 1, 2, 3] bcast_S1x2048x1x32_S4x2048x1x32_0_1_2_3 (broadcastInDim S1x2048x1x32 ![1, 3] bcast_S2048x32_S1x2048x1x32_1_3 (Host.sin a))))⟩,
    ⟨S4x2048x1x32, addf (mulf (extractStridedSlice S4x2048x1x32 ![0, 0, 0, 32] x slices_S4x2048x1x64_S4x2048x1x32_0_0_0_32) (broadcastInDim S4x2048x1x32 ![0, 1, 2, 3] bcast_S1x2048x1x32_S4x2048x1x32_0_1_2_3 (broadcastInDim S1x2048x1x32 ![1, 3] bcast_S2048x32_S1x2048x1x32_1_3 (Host.cos a))))
      (mulf (extractStridedSlice S4x2048x1x32 ![0, 0, 0, 0] x slices_S4x2048x1x64_S4x2048x1x32_0_0_0_0) (broadcastInDim S4x2048x1x32 ![0, 1, 2, 3] bcast_S1x2048x1x32_S4x2048x1x32_0_1_2_3 (broadcastInDim S1x2048x1x32 ![1, 3] bcast_S2048x32_S1x2048x1x32_1_3 (Host.sin a))))⟩]
    concatenates_S4x2048x1x32_S4x2048x1x32_S4x2048x1x64_d3

/-- The queries of the reference. -/
def joinQ (q : FVec Ideal S4x2048x8x192 .f32) (x : FVec Ideal S4x2048x8x64 .f32) : FVec Ideal S8192x2048 .bf16 :=
  truncf .bf16 (shapeCast _ (concatenate S4x2048x8x256 3 [
    ⟨S4x2048x8x192, mulf (concatenate S4x2048x8x192 3 [⟨S4x2048x8x128, extractStridedSlice S4x2048x8x128 ![0, 0, 0, 0] q slices_S4x2048x8x192_S4x2048x8x128_0_0_0_0⟩, ⟨S4x2048x8x64, x⟩] concatenates_S4x2048x8x128_S4x2048x8x64_S4x2048x8x192_d3)
      (broadcastInDim S4x2048x8x192 ![] bcast_S_S4x2048x8x192 (constant S_ .f32 0x3DD53B95#32))⟩,
    ⟨S4x2048x8x64, broadcastInDim S4x2048x8x64 ![] bcast_S_S4x2048x8x64 (constant S_ .f32 0x00000000#32 : FVec Ideal S_ .f32)⟩] concatenates_S4x2048x8x192_S4x2048x8x64_S4x2048x8x256_d3)
    shapeCasts_S4x2048x8x256_S8192x2048) bitsLt_bf16_f32

/-- The keys of the reference. -/
def joinK (q : FVec Ideal S4x2048x8x256 .f32) (x : FVec Ideal S4x2048x1x64 .f32) : FVec Ideal S8192x2048 .bf16 :=
  truncf .bf16 (shapeCast _ (concatenate S4x2048x8x256 3 [
    ⟨S4x2048x8x192, concatenate S4x2048x8x192 3 [⟨S4x2048x8x128, extractStridedSlice S4x2048x8x128 ![0, 0, 0, 0] q slices_S4x2048x8x256_S4x2048x8x128_0_0_0_0⟩,
      ⟨S4x2048x8x64, broadcastInDim S4x2048x8x64 ![0, 1, 2, 3] bcast_S4x2048x1x64_S4x2048x8x64_0_1_2_3 x⟩] concatenates_S4x2048x8x128_S4x2048x8x64_S4x2048x8x192_d3⟩,
    ⟨S4x2048x8x64, broadcastInDim S4x2048x8x64 ![] bcast_S_S4x2048x8x64 (constant S_ .f32 0x00000000#32 : FVec Ideal S_ .f32)⟩] concatenates_S4x2048x8x192_S4x2048x8x64_S4x2048x8x256_d3)
    shapeCasts_S4x2048x8x256_S8192x2048) bitsLt_bf16_f32

/-- The values of the reference. -/
def joinV (q : FVec Ideal S4x2048x8x256 .f32) : FVec Ideal S8192x1024 .bf16 :=
  truncf .bf16 (shapeCast _ (extractStridedSlice S4x2048x8x128 ![0, 0, 0, 128] q slices_S4x2048x8x256_S4x2048x8x128_0_0_0_128) shapeCasts_S4x2048x8x128_S8192x1024) bitsLt_bf16_f32

theorem headsQ_apply (g : FVec Ideal S1x512 .f32) (w : FVec Ideal S1x512x1536 .f32) (r : Fin 8192) (h : Fin 8) (e : Fin 192) :
    headsQ (latentQ u) g w (ix4 (batch r) (place r) h e) = query u g w r ⟨h.val * 192 + e.val, by omega⟩ := by
  have hx (k : Fin 512) : latentQ u (ix3 (batch r) (place r) k) = u (ix2 r ⟨11264 + k.val, by omega⟩) := by
    unfold latentQ batch place
    pointwise
  have hh : headsQ (latentQ u) g w (ix4 (batch r) (place r) h e)
      = ∑ k : Fin 512, hidden (fun k => latentQ u (ix3 (batch r) (place r) k)) (fun k => g (ix2 0 k)) (Ideal.ofBits .f32 0x44000000#32) k * w (ix3 0 k ⟨h.val * 192 + e.val, by omega⟩) := by
    unfold headsQ hidden
    pointwise
  rw [hh, funext hx]
  rfl

theorem headsKV_apply (g : FVec Ideal S1x256 .f32) (w : FVec Ideal S1x256x2048 .f32) (r : Fin 8192) (h : Fin 8) (e : Fin 256) :
    headsKV (latentKV u) g w (ix4 (batch r) (place r) h e) = keyvalue u g w r ⟨h.val * 256 + e.val, by omega⟩ := by
  have hx (k : Fin 256) : latentKV u (ix3 (batch r) (place r) k) = u (ix2 r ⟨11776 + k.val, by omega⟩) := by
    unfold latentKV batch place
    pointwise
  have hh : headsKV (latentKV u) g w (ix4 (batch r) (place r) h e)
      = ∑ k : Fin 256, hidden (fun k => latentKV u (ix3 (batch r) (place r) k)) (fun k => g (ix2 0 k)) (Ideal.ofBits .f32 0x43800000#32) k * w (ix3 0 k ⟨h.val * 256 + e.val, by omega⟩) := by
    unfold headsKV hidden
    pointwise
  rw [hh, funext hx]
  rfl

theorem rotary_apply (r : Fin 8192) (d : Fin 64) : rotary u (ix4 (batch r) (place r) 0 d) = u (ix2 r ⟨12032 + d.val, by omega⟩) := by
  unfold rotary batch place
  pointwise

end

theorem rope8_apply (x : FVec Ideal S4x2048x8x64 .f32) (a : FVec Ideal S2048x32 .f32) (b : Fin 4) (t : Fin 2048) (h : Fin 8) (d : Fin 64) :
    rope8 x a (ix4 b t h d) = rotated (fun d => x (ix4 b t h d)) (fun d => a (ix2 t d)) d := by
  have h1 (h : d.val < 32) : (⟨32 + d.val, by omega⟩ : Fin 64) = ⟨d.val + 32, by omega⟩ := Fin.ext (Nat.add_comm _ _)
  have h2 (h : ¬d.val < 32) : (⟨32 + (d.val - 32), by omega⟩ : Fin 64) = d := Fin.ext (Nat.add_sub_cancel' (Nat.le_of_not_lt h))
  unfold rope8 rotated
  pointwise
  split
  · rename_i hd
    rw [h1 hd]
  · rename_i hd
    rw [h2 hd]

theorem rope1_apply (x : FVec Ideal S4x2048x1x64 .f32) (a : FVec Ideal S2048x32 .f32) (b : Fin 4) (t : Fin 2048) (d : Fin 64) :
    rope1 x a (ix4 b t 0 d) = rotated (fun d => x (ix4 b t 0 d)) (fun d => a (ix2 t d)) d := by
  have h1 (h : d.val < 32) : (⟨32 + d.val, by omega⟩ : Fin 64) = ⟨d.val + 32, by omega⟩ := Fin.ext (Nat.add_comm _ _)
  have h2 (h : ¬d.val < 32) : (⟨32 + (d.val - 32), by omega⟩ : Fin 64) = d := Fin.ext (Nat.add_sub_cancel' (Nat.le_of_not_lt h))
  unfold rope1 rotated
  pointwise
  split
  · rename_i hd
    rw [h1 hd]
  · rename_i hd
    rw [h2 hd]

theorem joinQ_apply (q : FVec Ideal S4x2048x8x192 .f32) (x : FVec Ideal S4x2048x8x64 .f32) (r : Fin 8192) (j : Fin 2048) :
    joinQ q x (ix2 r j) = if h : j.val % 256 < 192 then
      (if h' : j.val % 256 < 128 then q (ix4 (batch r) (place r) ⟨j.val / 256, by omega⟩ ⟨j.val % 256, h⟩) else x (ix4 (batch r) (place r) ⟨j.val / 256, by omega⟩ ⟨j.val % 256 - 128, by omega⟩))
        * Ideal.ofBits .f32 0x3DD53B95#32 else 0 := by
  unfold joinQ batch place
  pointwise

theorem joinK_apply (q : FVec Ideal S4x2048x8x256 .f32) (x : FVec Ideal S4x2048x1x64 .f32) (r : Fin 8192) (j : Fin 2048) :
    joinK q x (ix2 r j) = if h : j.val % 256 < 192 then
      (if h' : j.val % 256 < 128 then q (ix4 (batch r) (place r) ⟨j.val / 256, by omega⟩ ⟨j.val % 256, by omega⟩) else x (ix4 (batch r) (place r) 0 ⟨j.val % 256 - 128, by omega⟩))
       else 0 := by
  unfold joinK batch place
  pointwise

theorem joinV_apply (q : FVec Ideal S4x2048x8x256 .f32) (r : Fin 8192) (j : Fin 1024) :
    joinV q (ix2 r j) = q (ix4 (batch r) (place r) ⟨j.val / 128, by omega⟩ ⟨128 + j.val % 128, by omega⟩) := by
  unfold joinV batch place
  pointwise

variable (m : (ℓ : Loc nD τ sig) → Buf (Elt Ideal) ℓ) (c : Dev nD)

/-- The reference's queries are the result's. -/
theorem reference_q : Value.res_main_v119 m c
    = resultQ (m ((c.tc : Thread nD τ).loc main_arg0)) (m ((c.tc : Thread nD τ).loc main_arg1)) (m ((c.tc : Thread nD τ).loc main_arg2)) := by
  have h : Value.res_main_v119 m c = (fun q : FVec Ideal S4x2048x8x192 .f32 => joinQ q
      (rope8 (extractStridedSlice S4x2048x8x64 ![0, 0, 0, 128] q slices_S4x2048x8x192_S4x2048x8x64_0_0_0_128) angles))
      (headsQ (latentQ (m ((c.tc : Thread nD τ).loc main_arg0))) (m ((c.tc : Thread nD τ).loc main_arg1)) (m ((c.tc : Thread nD τ).loc main_arg2))) := rfl
  rw [h]
  funext i
  have hr : (i 0).val < 8192 := (i 0).isLt
  have hj : (i 1).val < 2048 := (i 1).isLt
  have hs (q : FVec Ideal S4x2048x8x192 .f32) (b : Fin 4) (t : Fin 2048) (h : Fin 8) (d : Fin 64) :
      extractStridedSlice S4x2048x8x64 ![0, 0, 0, 128] q slices_S4x2048x8x192_S4x2048x8x64_0_0_0_128 (ix4 b t h d) = q (ix4 b t h ⟨128 + d.val, by omega⟩) := by pointwise
  refine (congrArg (joinQ _ _) (Cert.Merge.ix2_of i ⟨(i 0).val, hr⟩ ⟨(i 1).val, hj⟩ rfl rfl)).trans ((joinQ_apply _ _ _ _).trans ?_)
  unfold resultQ head
  dsimp only
  by_cases h1 : (i 1).val % 256 < 128
  · have h2 : (i 1).val % 256 < 192 := by omega
    rw [dif_pos h2, dif_pos h1, headsQ_apply]
    refine congrArg (fun s : EReal => s * (_ : EReal)) (Eq.trans ?_ (dif_pos h1).symm)
    rfl
  · by_cases h2 : (i 1).val % 256 < 192
    · rw [dif_pos h2, dif_neg h1, rope8_apply]
      refine congrArg (fun s : EReal => s * (_ : EReal)) (Eq.trans ?_ ((dif_neg h1).trans (dif_pos h2)).symm)
      exact congrArg (fun x => rotated x _ _) (funext fun d => (hs _ _ _ _ d).trans (headsQ_apply _ _ _ _ _ _))
    · rw [dif_neg h2]
      exact ((congrArg (fun s : EReal => s * (_ : EReal)) ((dif_neg h1).trans (dif_neg h2))).trans (zero_mul _)).symm

/-- The reference's keys are the result's. -/
theorem reference_k : Value.res_main_v122 m c
    = resultK (m ((c.tc : Thread nD τ).loc main_arg0)) (m ((c.tc : Thread nD τ).loc main_arg3)) (m ((c.tc : Thread nD τ).loc main_arg4)) := by
  have h : Value.res_main_v122 m c = joinK
      (headsKV (latentKV (m ((c.tc : Thread nD τ).loc main_arg0))) (m ((c.tc : Thread nD τ).loc main_arg3)) (m ((c.tc : Thread nD τ).loc main_arg4)))
      (rope1 (rotary (m ((c.tc : Thread nD τ).loc main_arg0))) angles) := rfl
  rw [h]
  funext i
  have hr : (i 0).val < 8192 := (i 0).isLt
  have hj : (i 1).val < 2048 := (i 1).isLt
  refine (congrArg (joinK _ _) (Cert.Merge.ix2_of i ⟨(i 0).val, hr⟩ ⟨(i 1).val, hj⟩ rfl rfl)).trans ((joinK_apply _ _ _ _).trans ?_)
  unfold resultK head
  dsimp only
  by_cases h1 : (i 1).val % 256 < 128
  · have h2 : (i 1).val % 256 < 192 := by omega
    rw [dif_pos h2, dif_pos h1, headsKV_apply]
    refine Eq.trans ?_ (dif_pos h1).symm
    rfl
  · by_cases h2 : (i 1).val % 256 < 192
    · rw [dif_pos h2, dif_neg h1, rope1_apply]
      refine Eq.trans ?_ ((dif_neg h1).trans (dif_pos h2)).symm
      exact congrArg (fun x => rotated x _ _) (funext fun d => rotary_apply _ _ d)
    · rw [dif_neg h2]
      exact ((dif_neg h1).trans (dif_neg h2)).symm

/-- The reference's values are the result's. -/
theorem reference_v : joinV (headsKV (latentKV (m ((c.tc : Thread nD τ).loc main_arg0))) (m ((c.tc : Thread nD τ).loc main_arg3)) (m ((c.tc : Thread nD τ).loc main_arg4)))
    = resultV (m ((c.tc : Thread nD τ).loc main_arg0)) (m ((c.tc : Thread nD τ).loc main_arg3)) (m ((c.tc : Thread nD τ).loc main_arg4)) := by
  funext i
  have hr : (i 0).val < 8192 := (i 0).isLt
  have hj : (i 1).val < 1024 := (i 1).isLt
  rw [Cert.Merge.ix2_of i ⟨(i 0).val, hr⟩ ⟨(i 1).val, hj⟩ rfl rfl]
  exact (joinV_apply _ _ _).trans (headsKV_apply _ _ _ _ _ _)

/-- The run of the reference, its results as the result's. -/
theorem run_reference (ρ : Dev nD → PrngReg) : θ_run defs (onTc (τ := τ) (main (F := Ideal))) ⟨m, fun _ => 0, ρ⟩ fun r => ∀ c : Dev nD,
    r.2.mem ((c.tc : Thread nD τ).loc main_v119) = resultQ (m ((c.tc : Thread nD τ).loc main_arg0)) (m ((c.tc : Thread nD τ).loc main_arg1)) (m ((c.tc : Thread nD τ).loc main_arg2))
    ∧ r.2.mem ((c.tc : Thread nD τ).loc main_v122) = resultK (m ((c.tc : Thread nD τ).loc main_arg0)) (m ((c.tc : Thread nD τ).loc main_arg3)) (m ((c.tc : Thread nD τ).loc main_arg4))
    ∧ r.2.mem ((c.tc : Thread nD τ).loc main_v124) = resultV (m ((c.tc : Thread nD τ).loc main_arg0)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h c).1.trans (reference_q m c), (h c).2.1.trans (reference_k m c), (h c).2.2.1.trans (reference_v m c), (h c).2.2.2⟩) (Value.run m ρ)

end Cert.Latents
-- ==== Proof.Memory.Blocks.lean ====
/- What the memory projection leaves: at the first column block the scratch rows hold the normalised memory, and every
   column block is the product of the scratch rows with its weight columns. -/
module

public import proofs.«01_k».proof.Proof.InProj.Blocks
public import proofs.«01_k».proof.Proof.Gen.MemoryIdeal.Value

@[expose] public section

set_option maxRecDepth 16384

noncomputable section

namespace Cert.Memory

open Idealize.ShloMosaic Idealize.ShloMosaic.TcCoe Idealize.SL.Sem Cert.MemoryIdeal Cert.MemoryIdeal.Gen
open Cert.KernelIdeal.InProj (rows fst_of snd_of)

theorem pay2_apply (h : Vec Ideal S1024x2048 .bf16) (w : Vec Ideal S1x2048x512 .f32) (y : S1024x512.Idx) :
    k0_pay2 (F := Ideal) h w y = ∑ k : Fin 2048, h (ix2 (y 0) k) * w (ix3 0 k (y 1)) := by
  pointwise [k0_pay2]

/-- A chunk of 64 rows, normalised by itself, is those rows of the normalised block. -/
theorem chunk_rows (x0 : Vec Ideal S1024x2048 .f32) (x1 : Vec Ideal S1x2048 .f32) (k : Fin k0_t1_loop.trips)
    (inb : ∀ a, k0_off1 k a + ![64, 2048] a ≤ S1024x2048.size a) (z : S64x2048.Idx) :
    k0_pay1 (F := Ideal) (View.ld x0 (Rect.unit (k0_off1 k) ![64, 2048] inb)) x1 z
      = rows x0 x1 ((Rect.unit (s := S1024x2048) (k0_off1 k) ![64, 2048] inb).emb z) :=
  Cert.KernelIdeal.InProj.chunk_rows x0 x1 k inb z

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1024x512 .bf16) (harg5 : arg5.IsWhole) (arg6 : Memref sig .tc .vmem S1024x2048 .bf16) (harg6 : arg6.IsWhole)
    (x0 : Vec Ideal S1024x2048 .f32) (x1 : Vec Ideal S1x2048 .f32) (x2 : Vec Ideal S1x2048x512 .f32)

/-- Every piece that the first `n` chunks store agrees with the normalised block. -/
theorem pieces_rows (hc0 : cond0_0 i) : ∀ n : ℕ, n ≤ k0_t1_loop.trips →
    ∀ p ∈ pb_k0_t1 (F := Ideal) Variants.none c none i arg2 harg2 arg3 harg3 arg4 harg4 arg5 harg5 arg6 harg6 hc0 (harg2.unread x0) (harg3.unread x1) n,
      ∀ z : p.1.shape.Idx, p.2 z = rows x0 x1 (p.1.emb z)
  | 0, _, p, hp, _ => absurd hp List.not_mem_nil
  | n + 1, hn, p, hp, z => by
    rw [pb_k0_t1_succ _ _ _ _ _ _ _ _ _ _ _ _ _ _ _ _ _ ⟨n, hn⟩] at hp
    rcases List.mem_append.mp hp with h | h
    · have e : tripL_k0_t1 (F := Ideal) Variants.none c none i arg2 harg2 arg3 harg3 arg4 harg4 arg5 harg5 arg6 harg6 hc0 (harg2.unread x0) (harg3.unread x1) ⟨n, hn⟩
          = [⟨Rect.unit (k0_off1 ⟨n, hn⟩) ![64, 2048] (k0_off1_inb i ⟨n, hn⟩ hc0), k0_pay1 (View.ld x0 (Rect.unit (k0_off1 ⟨n, hn⟩) ![64, 2048] (k0_off1_inb i ⟨n, hn⟩ hc0))) x1⟩] := by
        unfold tripL_k0_t1 trip_k0_t1
        frame_out
      rw [e] at h
      obtain rfl := List.mem_singleton.mp h
      exact chunk_rows x0 x1 ⟨n, hn⟩ _ z
    · exact pieces_rows hc0 n (Nat.le_of_succ_le hn) p h z

/-- After the chunks, the scratch rows are the normalised block. -/
theorem scratch_A (hc0 : cond0_0 i) : sout0_A_0 c i arg2 harg2 arg3 harg3 arg4 harg4 arg5 harg5 arg6 harg6 hc0 x0 x1 x2 = rows x0 x1 := by
  funext y
  exact View.read_writes_apply_of_pieces _ _ (rows x0 x1) _
    (pieces_rows c i arg2 harg2 arg3 harg3 arg4 harg4 arg5 harg5 arg6 harg6 x0 x1 hc0 _ (Nat.le_refl _)) y
    (scover0_A_0 c i arg2 harg2 arg3 harg3 arg4 harg4 arg5 harg5 arg6 harg6 hc0 x0 x1 x2 y)

theorem out_A (hc0 : cond0_0 i) : out0_A_3 c i arg2 harg2 arg3 harg3 arg4 harg4 arg5 harg5 arg6 harg6 hc0 x0 x1 x2 = k0_pay2 (rows x0 x1) x2 := by
  unfold out0_A_3 kernelRun0_A
  frame_out
  refine congrArg (fun h => k0_pay2 h x2) (funext fun y => ?_)
  have e : (Rect.unit ![0, 0] ![1024, 2048] inb_S1024x2048_S1024x2048_0_0 : Rect S1024x2048).toLoadRect.idx y = y := by
    funext a
    match a with
    | 0 => exact Fin.ext (by show 0 + 1 * (y 0).val = _; omega)
    | 1 => exact Fin.ext (by show 0 + 1 * (y 1).val = _; omega)
  refine (View.read_writes_apply_of_pieces _ _ (rows x0 x1) _
    (pieces_rows c i arg2 harg2 arg3 harg3 arg4 harg4 arg5 harg5 arg6 harg6 x0 x1 hc0 _ (Nat.le_refl _)) _ ?_).trans (congrArg _ e)
  exact scover0_A_0 c i arg2 harg2 arg3 harg3 arg4 harg4 arg5 harg5 arg6 harg6 hc0 x0 x1 x2 _

theorem out_B (hc0 : ¬cond0_0 i) (xs0 : Vec Ideal S1024x2048 .bf16) : out0_B_3 c i arg2 harg2 arg3 harg3 arg4 harg4 arg5 harg5 arg6 harg6 hc0 x0 x1 x2 xs0 = k0_pay2 xs0 x2 := by
  unfold out0_B_3 kernelRun0_B
  frame_out

end

/-- The result over the arguments: the normalised rows of the memory, batch by batch, times the weights. -/
def result (x : Vec Ideal S4x256x2048 .f32) (g : Vec Ideal S1x2048 .f32) (w : Vec Ideal S1x2048x1024 .f32) : Vec Ideal S1024x1024 .bf16 := fun i =>
  ∑ k : Fin 2048, rows (fun y => x (ix3 ⟨(y 0).val / 256, by have h : (y 0).val < 1024 := (y 0).isLt; omega⟩ ⟨(y 0).val % 256, Nat.mod_lt _ (by omega)⟩ (y 1))) g (ix2 (i 0) k) * (w (ix3 0 k (i 1)) : EReal)

variable (m : (ℓ : Loc nD τ sig) → Buf (Elt Ideal) ℓ) (c : Dev nD)

theorem maps : ∀ t : Fin grid0.N, cc0_transform_0 (grid0.coords t) = ![0, 0] ∧ cc0_transform_1 (grid0.coords t) = ![0, 0]
    ∧ cc0_transform_2 (grid0.coords t) = ![0, 0, t.val] ∧ cc0_transform_3 (grid0.coords t) = ![0, t.val] := by decide +kernel

theorem lt_N (t : Fin grid0.N) : t.val < 2 := Nat.lt_of_lt_of_eq t.isLt N_0

theorem entry_x (y : S1024x2048.Idx) : (V m c main_v0 : Vec Ideal S1024x2048 .f32) y
    = (m ((c.tc : Thread nD τ).loc main_arg0) : Vec Ideal S4x256x2048 .f32) (ix3 ⟨(y 0).val / 256, by have h : (y 0).val < 1024 := (y 0).isLt; omega⟩ ⟨(y 0).val % 256, Nat.mod_lt _ (by omega)⟩ (y 1)) := by
  entry_read
  pointwise

theorem entry_g (y : S1x2048.Idx) : (V m c main_v2 : Vec Ideal S1x2048 .f32) y = (m ((c.tc : Thread nD τ).loc main_arg1) : Vec Ideal S1x2048 .f32) y := by
  entry_read
  pointwise

/-- Every point sees all the rows. -/
theorem block_x (t : Fin grid0.N) : (iblk m c 0 t : Vec Ideal S1024x2048 .f32) = (V m c main_v0 : Vec Ideal S1024x2048 .f32) := by
  refine funext fun (y : S1024x2048.Idx) => congrArg (V m c main_v0 : Vec Ideal S1024x2048 .f32) (funext fun (a : Fin 2) => Fin.ext ?_)
  match a with
  | 0 => show cc0_transform_0 (grid0.coords t) 0 * 1024 + 1 * (y 0).val = (y 0).val
         rw [(maps t).1]; simp
  | 1 => show cc0_transform_0 (grid0.coords t) 1 * 2048 + 1 * (y 1).val = (y 1).val
         rw [(maps t).1]; simp

/-- Every point sees the whole gain. -/
theorem block_g (t : Fin grid0.N) : (iblk m c 1 t : Vec Ideal S1x2048 .f32) = (V m c main_v2 : Vec Ideal S1x2048 .f32) := by
  refine funext fun (y : S1x2048.Idx) => congrArg (V m c main_v2 : Vec Ideal S1x2048 .f32) (funext fun (a : Fin 2) => Fin.ext ?_)
  match a with
  | 0 => show cc0_transform_1 (grid0.coords t) 0 * 1 + 1 * (y 0).val = (y 0).val
         rw [(maps t).2.1]; simp
  | 1 => show cc0_transform_1 (grid0.coords t) 1 * 2048 + 1 * (y 1).val = (y 1).val
         rw [(maps t).2.1]; simp

/-- The weight columns that point `t` sees. -/
theorem block_w (t : Fin grid0.N) (y : S1x2048x512.Idx) (i : S1x2048x1024.Idx) (h1 : (i 1).val = (y 1).val) (h2 : (i 2).val = t.val * 512 + (y 2).val) :
    (iblk m c 2 t : Vec Ideal S1x2048x512 .f32) y = (m ((c.tc : Thread nD τ).loc main_arg2) : Vec Ideal S1x2048x1024 .f32) i := by
  refine congrArg (m ((c.tc : Thread nD τ).loc main_arg2) : Vec Ideal S1x2048x1024 .f32) (funext fun (a : Fin 3) => Fin.ext ?_)
  match a with
  | 0 => show cc0_transform_2 (grid0.coords t) 0 * 1 + 1 * (y 0).val = (i 0).val
         rw [(maps t).2.2.1]
         have a0 : (y 0).val < 1 := (y 0).isLt
         have a1 : (i 0).val < 1 := (i 0).isLt
         show 0 * 1 + 1 * (y 0).val = _
         omega
  | 1 => show cc0_transform_2 (grid0.coords t) 1 * 2048 + 1 * (y 1).val = (i 1).val
         rw [(maps t).2.2.1, h1]; simp
  | 2 => show cc0_transform_2 (grid0.coords t) 2 * 512 + 1 * (y 2).val = (i 2).val
         rw [(maps t).2.2.1, h2]; simp

/-- After every point the scratch rows are the normalised memory. -/
theorem scratch (n : ℕ) : ∀ hn : n < cfg0.N, (outsAt0 m c n hn).2 = rows (V m c main_v0) (V m c main_v2) := by
  induction n with
  | zero =>
    intro hn
    rw [outsAt0_A m c ⟨0, hn⟩ (Nat.zero_mod _)]
    exact (scratch_A ..).trans (congrArg₂ rows (block_x m c _) (block_g m c _))
  | succ n ih =>
    intro hn
    by_cases h0 : (n + 1) % 2 = 0
    · rw [outsAt0_A m c ⟨n + 1, hn⟩ h0]
      exact (scratch_A ..).trans (congrArg₂ rows (block_x m c _) (block_g m c _))
    · rw [outsAt0_B m c ⟨n + 1, hn⟩ h0]
      exact ih (Nat.lt_of_succ_lt hn)

/-- After every point the output block is the product of the normalised memory with the point's weight columns. -/
theorem output (t : Fin cfg0.N) : (outsAt0 m c t.val t.isLt).1 = k0_pay2 (F := Ideal) (rows (V m c main_v0) (V m c main_v2)) (iblk m c 2 t) := by
  by_cases h0 : t.val % 2 = 0
  · refine fst_of (outsAt0_A m c t h0) ?_
    exact (out_A ..).trans (congrArg (fun h => k0_pay2 (F := Ideal) h (iblk m c 2 t)) (congrArg₂ rows (block_x m c _) (block_g m c _)))
  · refine fst_of (outsAt0_B m c t h0) ?_
    refine (out_B ..).trans ?_
    have hs := snd_of (outsAt0_B m c t h0) (scratch m c t.val t.isLt)
    exact congrArg (fun h => k0_pay2 (F := Ideal) h (iblk m c 2 t)) hs

/-- The result over the arguments as launched. -/
def final : Vec Ideal S1024x1024 .bf16 := result (m ((c.tc : Thread nD τ).loc main_arg0)) (m ((c.tc : Thread nD τ).loc main_arg1)) (m ((c.tc : Thread nD τ).loc main_arg2))

theorem block_out (t : Fin grid0.N) (y : S1024x512.Idx) (i : S1024x1024.Idx) (h0 : (i 0).val = (y 0).val) (h1 : (i 1).val = t.val * 512 + (y 1).val) :
    (dats m 0 c).after 3 t y = final m c i := by
  rw [after0_3, output]
  refine (pay2_apply _ _ y).trans ?_
  unfold final result
  have hx := funext (entry_x m c)
  have hg := funext (entry_g m c)
  refine Finset.sum_congr rfl fun k _ => congrArg₂ (fun a b : EReal => a * b) ?_ (block_w m c t _ _ rfl h1)
  exact (congrArg₂ rows hx hg ▸ rfl : rows (V m c main_v0) (V m c main_v2) (ix2 (y 0) k) = _).trans (congrArg (fun r => rows _ _ (ix2 r k)) (Fin.ext h0.symm))

/-- The block of the result that point `t` writes, at an index. -/
theorem emb_out (t : Fin cfg0.N) (y : S1024x512.Idx) (a : Fin 2) :
    (((cfg0.win 3).blk t).view.emb y a : Fin _).val = ![(y 0).val, t.val * 512 + (y 1).val] a := by
  match a with
  | 0 => show cc0_transform_3 (grid0.coords t) 0 * 1024 + 1 * (y 0).val = (y 0).val
         rw [(maps t).2.2.2]; simp
  | 1 => show cc0_transform_3 (grid0.coords t) 1 * 512 + 1 * (y 1).val = t.val * 512 + (y 1).val
         rw [(maps t).2.2.2]; simp

theorem arr : (dats m 0 c).arrAt 3 cfg0.N = final m c := by
  refine (dats m 0 c).arrAt_eq_of_emb 3 _ (fun t _ y => block_out m c t y _ (emb_out t y 0) (emb_out t y 1)) fun (i : S1024x1024.Idx) => ?_
  have h0 : (i 0).val < 1024 := (i 0).isLt
  have h1 : (i 1).val < 1024 := (i 1).isLt
  let t : Fin cfg0.N := ⟨(i 1).val / 512, by
    show _ < grid0.N
    rw [N_0]; omega⟩
  refine ⟨t, flush0_3 t, ?_⟩
  have e : ((cfg0.win 3).blk t).view.emb (ix2 ⟨(i 0).val, h0⟩ ⟨(i 1).val % 512, by omega⟩ : S1024x512.Idx) = i := by
    refine funext fun (a : Fin 2) => Fin.ext ((emb_out t _ a).trans ?_)
    match a with
    | 0 => rfl
    | 1 => show (i 1).val / 512 * 512 + (i 1).val % 512 = (i 1).val
           omega
  exact (congrArg (fun j => j ∈ ((cfg0.win 3).blk t).view.set) e).mp (View.emb_mem_set _ _)

end Cert.Memory
-- ==== Proof.Memory.Reference.lean ====
/- The reference of the memory projection, entry by entry. -/
module

public import proofs.«01_k».proof.Proof.Memory.Blocks
public import proofs.«01_k».proof.Proof.Gen.MemoryReferenceIdeal.Run

@[expose] public section

set_option maxRecDepth 16384

noncomputable section

namespace Cert.Memory

open Idealize.ShloMosaic Idealize.ShloMosaic.TcCoe Idealize.SL.Sem Cert.MemoryReferenceIdeal Cert.MemoryReferenceIdeal.Facts₀

/-- The reference's term. -/
def term (x : FVec Ideal S4x256x2048 .f32) (g : FVec Ideal S1x2048 .f32) (w : FVec Ideal S1x2048x1024 .f32) : FVec Ideal S1024x1024 .bf16 :=
  truncf .bf16 (shapeCast _ (Host.dotGeneral dot_S4x256x2048_S2048x1024_S4x256x1024_2_0_01_1_n_n none (mulf (mulf x (broadcastInDim S4x256x2048 ![0, 1, 2] bcast_S4x256x1_S4x256x2048_0_1_2
    (Host.rsqrt (addf (Host.divf (broadcastInDim S4x256x1 ![0, 1] bcast_S4x256_S4x256x1_0_1 (Host.reduceAdd (mulf x x) (constant S_ .f32 0x00000000#32) reducesTo_S4x256x2048_S4x256_d2 h_S_))
      (broadcastInDim S4x256x1 ![] bcast_S_S4x256x1 (constant S_ .f32 0x45000000#32))) (broadcastInDim S4x256x1 ![] bcast_S_S4x256x1 (constant S_ .f32 0x358637BD#32))))))
    (broadcastInDim S4x256x2048 ![0, 1, 2] bcast_S1x1x2048_S4x256x2048_0_1_2 (broadcastInDim S1x1x2048 ![2] bcast_S2048_S1x1x2048_2 (shapeCast _ g shapeCasts_S1x2048_S2048))))
    (shapeCast _ w shapeCasts_S1x2048x1024_S2048x1024)) shapeCasts_S4x256x1024_S1024x1024) bitsLt_bf16_f32

theorem term_eq (x : FVec Ideal S4x256x2048 .f32) (g : FVec Ideal S1x2048 .f32) (w : FVec Ideal S1x2048x1024 .f32) : term x g w = result x g w := by
  funext i
  unfold term result Cert.KernelIdeal.InProj.rows
  pointwise

/-- The run of the reference, its result as the result's. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (term_eq _ _ _), (h c).2⟩) (Value.run m ρ)

end Cert.Memory
-- ==== Proof.Attn.Cells.lean ====
/- The mathematics of one head of the latent attention, and what the tiles hold: the tile of scores, the running
   maximum, the tile of weights, the transposed values, and the quotient that leaves. -/
module

public import proofs.«01_k».proof.Proof.InProj.Blocks
public import proofs.«01_k».proof.Proof.Gen.AttentionIdeal.Value
public import Idealize.ShloMosaic.Lib.Pipeline.RowLoads
public import Idealize.ShloMosaic.Lib.WholeRead
public import Idealize.ShloMosaic.PureOps.Ideal.Laws

@[expose] public section

set_option maxRecDepth 16384

noncomputable section

namespace Cert.Attn

open Idealize.ShloMosaic Idealize.ShloMosaic.TcCoe Idealize.SL.Sem Cert.AttentionIdeal Cert.AttentionIdeal.Gen

/-- The entry of a window at a row and a column. -/
def cell {w : ℕ} (x : Vec Ideal ⟨3, ![1, 2048, w]⟩ .bf16) (r c : ℕ) : EReal :=
  if h : r < 2048 ∧ c < w then x (ix3 0 ⟨r, h.1⟩ ⟨c, h.2⟩) else 0

/-- The score of query `r` against key `k`, in the head whose columns start at `a`: the product of the two rows, and
    minus infinity at the keys after the query. -/
def score (q k : ℕ → ℕ → EReal) (a r t : ℕ) : EReal :=
  if t ≤ r then ∑ d : Fin 256, k t (a + d) * q r (a + d) else ⊥

/-- The greatest score of query `r`. -/
def top (q k : ℕ → ℕ → EReal) (a r : ℕ) : EReal := (Finset.range 2048).sup (score q k a r)

/-- The weight of key `t` for query `r`, over base 2. -/
def weight (q k : ℕ → ℕ → EReal) (a r t : ℕ) : EReal := Ideal.exp2 (score q k a r t - top q k a r)

/-- The gate. -/
def silu (z : EReal) : EReal := Ideal.div z (1 + Ideal.exp (0 - z))

/-- The gated result of query `r` at value column `c`, of the head whose value columns start at `b`. -/
def gated (q k v z : ℕ → ℕ → EReal) (b r c : ℕ) : EReal :=
  Ideal.div (∑ t ∈ Finset.range 2048, v t c * weight q k (2 * b) r t) (∑ t ∈ Finset.range 2048, weight q k (2 * b) r t) * silu (z r c)

/-- A tile holds the entries from row `r` and column `a` on. -/
structure Ld {m n : ℕ} (f : ℕ → ℕ → EReal) (a r : ℕ) (x : Vec Ideal ⟨2, ![m, n]⟩ .bf16) : Prop where
  eq : ∀ (i : Fin m) (j : Fin n), x (ix2 i j) = f (r + i) (a + j)

theorem ld_load {sg : RefSig} {κ : Kind} {sp : Space} {W m n : ℕ} {M : Memref sg κ sp (⟨3, ![1, 2048, W]⟩ : Shape) .bf16} (h : M.IsWhole)
    (X : Vec Ideal ⟨3, ![1, 2048, W]⟩ .bf16) (a r : ℕ)
    (inbA : ∀ x, (![0, 0, a] : Fin 3 → ℕ) x + (![1, 2048, n] : Fin 3 → ℕ) x ≤ (⟨3, ![1, 2048, W]⟩ : Shape).size x)
    (inbB : ∀ x, (![r, 0] : Fin 2 → ℕ) x + (⟨2, ![m, n]⟩ : Shape).size x ≤ (⟨2, ![2048, n]⟩ : Shape).size x)
    (h0 : (![1, 2048, n] : Fin 3 → ℕ) 0 = 1) (hs : ∀ i : Fin 2, (![1, 2048, n] : Fin 3 → ℕ) i.succ = (![2048, n] : Fin 2 → ℕ) i)
    (hst : ∀ x, (Rect.unit (s := (⟨3, ![1, 2048, W]⟩ : Shape)) ![0, 0, a] ![1, 2048, n] inbA).stride x = 1)
    (hR : (Rect.unit (s := (⟨2, ![2048, n]⟩ : Shape)) ![r, 0] (⟨2, ![m, n]⟩ : Shape).size inbB).toLoadRect.shape.numel
      = ((Rect.unit (s := (⟨3, ![1, 2048, W]⟩ : Shape)) ![0, 0, a] ![1, 2048, n] inbA).withinL
        ((Rect.unit (s := (⟨2, ![2048, n]⟩ : Shape)) ![r, 0] (⟨2, ![m, n]⟩ : Shape).size inbB).toLoadRect.consLift ![1, 2048, n] h0 hs) hst).shape.numel) :
    Ld (m := m) (n := n) (cell X) a r (LoadRect.valAlong (lr := (Rect.unit (s := (⟨2, ![2048, n]⟩ : Shape)) ![r, 0] (⟨2, ![m, n]⟩ : Shape).size inbB).toLoadRect) hR (View.readAt (Elt Ideal) M.view
      ((Rect.unit (s := (⟨3, ![1, 2048, W]⟩ : Shape)) ![0, 0, a] ![1, 2048, n] inbA).withinL
        ((Rect.unit (s := (⟨2, ![2048, n]⟩ : Shape)) ![r, 0] (⟨2, ![m, n]⟩ : Shape).size inbB).toLoadRect.consLift ![1, 2048, n] h0 hs) hst) (h.unread X))) := by
  refine ⟨fun i j => ?_⟩
  have hr : r + m ≤ 2048 := inbB 0
  have ha : a + n ≤ W := inbA 2
  have hi := i.isLt
  have hj := j.isLt
  refine (Memref.IsWhole.readAt_unread h X _ _).trans (Eq.trans ?_ (dif_pos ⟨by omega, by omega⟩).symm)
  have e : Shape.reshapeEquiv hR (ix2 i j : (⟨2, ![m, n]⟩ : Shape).Idx) = Fin.cons ⟨0, Nat.one_pos⟩ (ix2 i j : (⟨2, ![m, n]⟩ : Shape).Idx) :=
    Shape.reshapeEquiv_cons_one (d := ![m, n]) _ _
  refine congrArg X ((congrArg _ e).trans (funext fun (b : Fin 3) => Fin.ext ?_))
  match b with
  | 0 => show 0 + 0 + 1 * 0 = 0
         rfl
  | 1 => show 0 + r + 1 * i.val = r + i.val
         omega
  | 2 => show a + 0 + 1 * j.val = a + j.val
         omega

theorem ld_cast {m n : ℕ} {f : ℕ → ℕ → EReal} {a r : ℕ} {x : Vec Ideal ⟨2, ![m, n]⟩ .bf16} (hc : Shape.ShapeCasts ⟨2, ![m, n]⟩ ⟨2, ![m, n]⟩) (h : Ld f a r x) :
    Ld f a r (shapeCast ⟨2, ![m, n]⟩ x hc) :=
  ⟨fun i j => by rw [shapeCast_self]; exact h.eq i j⟩

section
variable {q k v z : ℕ → ℕ → EReal} {a b r n : ℕ}

/-- A tile of the mask: zero at the keys up to the query, minus infinity after it. -/
structure Mask (x : Vec Ideal S256x256 .f32) : Prop where
  eq : ∀ i j : Fin 256, x (ix2 i j) = if i.val ≤ j.val then (0 : EReal) else ⊥

/-- A tile of scores, one column per query from `r` on, one row per key from `n` on. -/
structure Tile (q k : ℕ → ℕ → EReal) (a r n : ℕ) (t : Vec Ideal S256x256 .f32) : Prop where
  eq : ∀ i j : Fin 256, t (ix2 i j) = score q k a (r + j) (n + i)

/-- The greatest of the first `n` scores of each query from `r` on. -/
structure Best (q k : ℕ → ℕ → EReal) (a r n : ℕ) (m : Vec Ideal S1x256 .f32) : Prop where
  eq : ∀ j : Fin 256, m (ix2 0 j) = (Finset.range n).sup (score q k a (r + j))

/-- A tile of weights. -/
structure Wt (q k : ℕ → ℕ → EReal) (a r n : ℕ) {l : ℕ} (p : Vec Ideal ⟨2, ![l, 256]⟩ .bf16) : Prop where
  eq : ∀ (i : Fin l) (j : Fin 256), p (ix2 i j) = weight q k a (r + j) (n + i)

theorem ofBits_bot : Ideal.ofBits .f32 0xFF800000#32 = ⊥ := by simp [Ideal.ofBits, Ideal.ieee]

theorem mask_pay : Mask (k0_pay2 (F := Ideal)) := by
  refine ⟨fun i j => ?_⟩
  unfold k0_pay2
  pointwise
  have hi := i.isLt
  have hj := j.isLt
  rw [ofBits_bot]
  rw [WordCmp.cmpi_sle_ofNat (by omega) (by omega)]
  by_cases h : i.val ≤ j.val
  · simp [h, Scalar.select]
  · simp [h, Scalar.select]

theorem scores (x y : Vec Ideal S256x256 .bf16) (i j : Fin 256) :
    matmul (F := Ideal) (φ₁ := .bf16) (φ₂ := .bf16) dot_S256x256_S256x256_S256x256_1_1_0_0_n_n none x y (constant S256x256 .f32 0x00000000#32) (ix2 i j)
      = ∑ d : Fin 256, x (ix2 i d) * y (ix2 j d) := by
  pointwise

theorem tile_off {x y : Vec Ideal S256x256 .bf16} (hx : Ld k a n x) (hy : Ld q a r y) (h : n + 256 ≤ r) :
    Tile q k a r n (matmul (F := Ideal) (φ₁ := .bf16) (φ₂ := .bf16) dot_S256x256_S256x256_S256x256_1_1_0_0_n_n none x y (constant S256x256 .f32 0x00000000#32)) := by
  refine ⟨fun i j => (scores x y i j).trans ?_⟩
  rw [score, if_pos (by have := i.isLt; omega)]
  exact Finset.sum_congr rfl fun d _ => congrArg₂ (· * ·) (hx.eq i d) (hy.eq j d)

theorem tile_diag {x y : Vec Ideal S256x256 .bf16} {w : Vec Ideal S256x256 .f32} (hx : Ld k a r x) (hy : Ld q a r y) (hw : Mask w) :
    Tile q k a r r (addf (matmul (F := Ideal) (φ₁ := .bf16) (φ₂ := .bf16) dot_S256x256_S256x256_S256x256_1_1_0_0_n_n none x y (constant S256x256 .f32 0x00000000#32)) w) := by
  refine ⟨fun i j => ?_⟩
  show (_ + _ : EReal) = _
  rw [scores, hw.eq, score]
  by_cases h : i.val ≤ j.val
  · rw [if_pos h, if_pos (by omega), add_zero]
    exact Finset.sum_congr rfl fun d _ => congrArg₂ (· * ·) (hx.eq i d) (hy.eq j d)
  · rw [if_neg h, if_neg (by omega), EReal.add_bot]

theorem tile_cast {t : Vec Ideal S256x256 .f32} (hc : S256x256.ShapeCasts S256x256) (h : Tile q k a r n t) : Tile q k a r n (shapeCast S256x256 t hc) :=
  ⟨fun i j => by rw [shapeCast_self]; exact h.eq i j⟩

theorem tile_best {t : Vec Ideal S256x256 .f32} (h : Tile q k a r n t) (hr : S256x256.Reduces [0] S256) (hφ : FKind.Formats .f32)
    (hacc : (0xFF800000#32 : BitVec 32) = FKind.maximumf.neutral .f32 hφ) (hc : S256.ShapeCasts S1x256) (j : Fin 256) :
    addf (F := Ideal) (shapeCast S1x256 (multiReduction .maximumf [0] S256 t 0xFF800000#32 hr hφ hacc) hc) (broadcast S1x256 (Scalar.ofBits .f32 0x00000000#32)) (ix2 0 j)
      = (Finset.range 256).sup fun i => score q k a (r + j) (n + i) := by
  have e : multiReduction (F := Ideal) .maximumf [0] S256 t 0xFF800000#32 hr hφ hacc (ix1 j) = (Finset.range 256).sup fun i => score q k a (r + j) (n + i) := by
    rw [Idealize.ShloMosaic.Ideal.multiReduction_maximumf_single]
    refine le_antisymm (Finset.fold_max_le _ |>.mpr ⟨?_, fun i _ => ?_⟩) (Finset.sup_le fun i hi => ?_)
    · rw [show (FloatOps.ofBits .f32 0xFF800000#32 : Ideal .f32) = (⊥ : EReal) from ofBits_bot]
      exact bot_le
    · have hl : hr.lift (ix1 j) i = ix2 (⟨i.val, i.isLt⟩ : Fin 256) j := by
        refine funext fun (x : Fin 2) => Fin.ext ?_
        match x with
        | 0 => rfl
        | 1 => rfl
      show t (hr.lift (ix1 j) i) ≤ _
      rw [hl, h.eq]
      exact Finset.le_sup (f := fun i => score q k a (r + j) (n + i)) (Finset.mem_range.mpr i.isLt)
    · refine Finset.le_fold_max _ |>.mpr (.inr ⟨⟨i, Finset.mem_range.mp hi⟩, Finset.mem_univ _, ?_⟩)
      have hl : hr.lift (ix1 j) (⟨i, Finset.mem_range.mp hi⟩ : Fin 256) = ix2 (⟨i, Finset.mem_range.mp hi⟩ : Fin 256) j := by
        refine funext fun (x : Fin 2) => Fin.ext ?_
        match x with
        | 0 => rfl
        | 1 => rfl
      show _ ≤ t (hr.lift (ix1 j) (⟨i, Finset.mem_range.mp hi⟩ : Fin 256))
      rw [hl, h.eq]
  generalize multiReduction (F := Ideal) .maximumf [0] S256 t 0xFF800000#32 hr hφ hacc = u at e ⊢
  pointwise
  exact e

theorem best_first {t : Vec Ideal S256x256 .f32} (h : Tile q k a r 0 t) (hr : S256x256.Reduces [0] S256) (hφ : FKind.Formats .f32)
    (hacc : (0xFF800000#32 : BitVec 32) = FKind.maximumf.neutral .f32 hφ) (hc : S256.ShapeCasts S1x256) :
    Best q k a r 256 (addf (F := Ideal) (shapeCast S1x256 (multiReduction .maximumf [0] S256 t 0xFF800000#32 hr hφ hacc) hc) (broadcast S1x256 (Scalar.ofBits .f32 0x00000000#32))) :=
  ⟨fun j => (tile_best h hr hφ hacc hc j).trans (by simp only [Nat.zero_add])⟩

theorem sup_more (f : ℕ → EReal) (n : ℕ) : (Finset.range n).sup f ⊔ (Finset.range 256).sup (fun i => f (n + i)) = (Finset.range (n + 256)).sup f := by
  refine le_antisymm (sup_le (Finset.sup_mono (Finset.range_mono (by omega))) (Finset.sup_le fun i hi => ?_)) (Finset.sup_le fun i hi => ?_)
  · exact Finset.le_sup (f := f) (Finset.mem_range.mpr (by have := Finset.mem_range.mp hi; omega))
  · by_cases h : i < n
    · exact le_sup_of_le_left (Finset.le_sup (f := f) (Finset.mem_range.mpr h))
    · refine le_sup_of_le_right ((le_of_eq (congrArg f (by omega))).trans (Finset.le_sup (f := fun i => f (n + i)) (b := i - n) (Finset.mem_range.mpr ?_)))
      have := Finset.mem_range.mp hi; omega

theorem best_step {m : Vec Ideal S1x256 .f32} {t : Vec Ideal S256x256 .f32} (hm : Best q k a r n m) (h : Tile q k a r n t) (hr : S256x256.Reduces [0] S256) (hφ : FKind.Formats .f32)
    (hacc : (0xFF800000#32 : BitVec 32) = FKind.maximumf.neutral .f32 hφ) (hc : S256.ShapeCasts S1x256) :
    Best q k a r (n + 256) (maximumf m (addf (F := Ideal) (shapeCast S1x256 (multiReduction .maximumf [0] S256 t 0xFF800000#32 hr hφ hacc) hc) (broadcast S1x256 (Scalar.ofBits .f32 0x00000000#32)))) := by
  refine ⟨fun j => ?_⟩
  show max (m (ix2 0 j)) (_ : EReal) = _
  rw [tile_best h hr hφ hacc hc j, hm.eq]
  exact sup_more _ n

/-- The scores after the query add nothing to the greatest one. -/
theorem best_all {m : Vec Ideal S1x256 .f32} (h : Best q k a r (r + 256) m) (hr : r + 256 ≤ 2048) (j : Fin 256) : m (ix2 0 j) = top q k a (r + j) := by
  refine (h.eq j).trans (le_antisymm (Finset.sup_mono (Finset.range_mono hr)) (Finset.sup_le fun i _ => ?_))
  by_cases hi : i < r + 256
  · exact Finset.le_sup (f := score q k a (r + j)) (Finset.mem_range.mpr hi)
  · rw [score, if_neg (by omega)]; exact bot_le

theorem wt_pay {m : Vec Ideal S1x256 .f32} {t : Vec Ideal S256x256 .f32} (hr : r + 256 ≤ 2048) (hm : Best q k a r (r + 256) m) (h : Tile q k a r n t)
    (hb : S1x256.Broadcasts S256x256) (hlt : FTy.bits .bf16 < FTy.bits .f32) :
    Wt q k a r n (l := 256) (truncf (F := Ideal) .bf16 (exp2 (subf t (broadcastTo S256x256 (subf m (broadcast S1x256 (Scalar.ofBits .f32 0x00000000#32))) hb))) hlt) := by
  refine ⟨fun i j => ?_⟩
  pointwise
  rw [h.eq, best_all hm hr]
  rfl

theorem wt_cast {p : Vec Ideal S256x256 .bf16} (hc : S256x256.ShapeCasts S256x256) (h : Wt q k a r n (l := 256) p) : Wt q k a r n (l := 256) (shapeCast S256x256 p hc) :=
  ⟨fun i j => by rw [shapeCast_self]; exact h.eq i j⟩

/-! ## What the scratch buffers hold -/

theorem canon_hit {A B k l : ℕ} {e : EltTy} (o o' : ℕ) (inb : ∀ x, (![o, o'] : Fin 2 → ℕ) x + (⟨2, ![k, l]⟩ : Shape).size x ≤ (⟨2, ![A, B]⟩ : Shape).size x)
    (w : Vec Ideal ⟨2, ![k, l]⟩ e) (L : List (View.Piece (Elt Ideal) (⟨2, ![A, B]⟩ : Shape) e)) (x : Fin k) (y : Fin l) (i : Fin A) (j : Fin B)
    (hi : i.val = o + x.val) (hj : j.val = o' + y.val) :
    View.canon (⟨Rect.unit (s := (⟨2, ![A, B]⟩ : Shape)) ![o, o'] (⟨2, ![k, l]⟩ : Shape).size inb, w⟩ :: L) (ix2 i j) = w (ix2 x y) := by
  have e : (Rect.unit (s := (⟨2, ![A, B]⟩ : Shape)) ![o, o'] (⟨2, ![k, l]⟩ : Shape).size inb).emb (ix2 x y : (⟨2, ![k, l]⟩ : Shape).Idx) = ix2 i j := by
    refine funext fun (a : Fin 2) => Fin.ext ?_
    match a with
    | 0 => show o + 1 * x.val = i.val
           omega
    | 1 => show o' + 1 * y.val = j.val
           omega
  rw [← e]
  exact View.canon_cons_emb _ _ _ _

theorem canon_miss {A B k l : ℕ} {e : EltTy} (o o' : ℕ) (inb : ∀ x, (![o, o'] : Fin 2 → ℕ) x + (⟨2, ![k, l]⟩ : Shape).size x ≤ (⟨2, ![A, B]⟩ : Shape).size x)
    (w : Vec Ideal ⟨2, ![k, l]⟩ e) (L : List (View.Piece (Elt Ideal) (⟨2, ![A, B]⟩ : Shape) e)) (i : Fin A) (j : Fin B)
    (h : (i.val < o ∨ o + k ≤ i.val) ∨ j.val < o' ∨ o' + l ≤ j.val) :
    View.canon (⟨Rect.unit (s := (⟨2, ![A, B]⟩ : Shape)) ![o, o'] (⟨2, ![k, l]⟩ : Shape).size inb, w⟩ :: L) (ix2 i j) = View.canon L (ix2 i j) := by
  refine View.canon_cons_of_not_mem _ _ ?_
  rcases h with h | h
  · exact Rect.not_mem_set_of_axis (r := Rect.unit (s := (⟨2, ![A, B]⟩ : Shape)) ![o, o'] (⟨2, ![k, l]⟩ : Shape).size inb) _ (0 : Fin 2) o k rfl rfl rfl h
  · exact Rect.not_mem_set_of_axis (r := Rect.unit (s := (⟨2, ![A, B]⟩ : Shape)) ![o, o'] (⟨2, ![k, l]⟩ : Shape).size inb) _ (1 : Fin 2) o' l rfl rfl rfl h

section
variable {sg : RefSig} {κ : Kind} {sp : Space}

theorem mask_hit {V : View sg κ sp S256x256 .f32} {w : Vec Ideal S256x256 .f32} {L : List (View.Piece (Elt Ideal) S256x256 .f32)}
    {inb inb' : ∀ x, (![0, 0] : Fin 2 → ℕ) x + S256x256.size x ≤ S256x256.size x} (h : Mask w) :
    Mask (V.readCov (⟨Rect.unit (s := S256x256) ![0, 0] S256x256.size inb, w⟩ :: L) (Rect.unit (s := S256x256) ![0, 0] S256x256.size inb').toLoadRect) := by
  rw [View.readCov_cons_toLoadRect]
  exact h

theorem tile_hit {V : View sg κ sp S2048x256 .f32} {w : Vec Ideal S256x256 .f32} {L : List (View.Piece (Elt Ideal) S2048x256 .f32)}
    {inb inb' : ∀ x, (![n, 0] : Fin 2 → ℕ) x + S256x256.size x ≤ S2048x256.size x} (h : Tile q k a r n w) :
    Tile q k a r n (V.readCov (⟨Rect.unit (s := S2048x256) ![n, 0] S256x256.size inb, w⟩ :: L) (Rect.unit (s := S2048x256) ![n, 0] S256x256.size inb').toLoadRect) := by
  rw [View.readCov_cons_toLoadRect]
  exact h

theorem tile_skip {V : View sg κ sp S2048x256 .f32} {w : Vec Ideal S256x256 .f32} {L : List (View.Piece (Elt Ideal) S2048x256 .f32)} {o : ℕ}
    {inb : ∀ x, (![o, 0] : Fin 2 → ℕ) x + S256x256.size x ≤ S2048x256.size x} {inb' : ∀ x, (![n, 0] : Fin 2 → ℕ) x + S256x256.size x ≤ S2048x256.size x}
    (ho : o + 256 ≤ n ∨ n + 256 ≤ o)
    (h : Tile q k a r n (V.readCov L (Rect.unit (s := S2048x256) ![n, 0] S256x256.size inb').toLoadRect)) :
    Tile q k a r n (V.readCov (⟨Rect.unit (s := S2048x256) ![o, 0] S256x256.size inb, w⟩ :: L) (Rect.unit (s := S2048x256) ![n, 0] S256x256.size inb').toLoadRect) := by
  rw [View.readCov_cons_of_rows_disjoint V o n ho w L inb inb']
  exact h

/-- The stores leave the weights of the first `n` keys. -/
structure Wts (q k : ℕ → ℕ → EReal) (a r n : ℕ) (L : List (View.Piece (Elt Ideal) S2048x256 .bf16)) : Prop where
  eq : ∀ (i : Fin 2048) (j : Fin 256), i.val < n → View.canon L (ix2 i j) = weight q k a (r + j) i

theorem wts_nil {L : List (View.Piece (Elt Ideal) S2048x256 .bf16)} : Wts q k a r 0 L := ⟨fun _ _ h => absurd h (Nat.not_lt_zero _)⟩

theorem wts_cons {w : Vec Ideal S256x256 .bf16} {L : List (View.Piece (Elt Ideal) S2048x256 .bf16)}
    {inb : ∀ x, (![n, 0] : Fin 2 → ℕ) x + S256x256.size x ≤ S2048x256.size x} (h : Wt q k a r n (l := 256) w) (hL : Wts q k a r n L) :
    Wts q k a r (n + 256) (⟨Rect.unit (s := S2048x256) ![n, 0] S256x256.size inb, w⟩ :: L) := by
  refine ⟨fun i j hi => ?_⟩
  by_cases hn : i.val < n
  · exact (canon_miss n 0 inb w L i j (.inl (.inl hn))).trans (hL.eq i j hn)
  · refine (canon_hit n 0 inb w L ⟨i.val - n, by omega⟩ j i j (by show i.val = n + (i.val - n); omega) (by omega)).trans ((h.eq _ j).trans ?_)
    exact congrArg (weight q k a (r + j)) (by show n + (i.val - n) = i.val; omega)

theorem wts_read {l : ℕ} {V : View sg κ sp S2048x256 .bf16} {L : List (View.Piece (Elt Ideal) S2048x256 .bf16)}
    {inb : ∀ x, (![0, 0] : Fin 2 → ℕ) x + (⟨2, ![l, 256]⟩ : Shape).size x ≤ S2048x256.size x} (h : Wts q k a r l L) :
    Wt q k a r 0 (l := l) (V.readCov L (Rect.unit (s := S2048x256) ![0, 0] (⟨2, ![l, 256]⟩ : Shape).size inb).toLoadRect) := by
  refine ⟨fun i j => ?_⟩
  have hl : 0 + l ≤ 2048 := inb 0
  have hi := i.isLt
  rw [View.readCov_eq_canon']
  refine Eq.trans (congrArg (View.canon L) (funext fun (x : Fin 2) => Fin.ext ?_)) ((h.eq ⟨i.val, by omega⟩ j hi).trans ?_)
  · match x with
    | 0 => show 0 + 1 * i.val = i.val
           omega
    | 1 => show 0 + 1 * j.val = j.val
           omega
  · exact congrArg (weight q k a (r + j)) (Nat.zero_add _).symm

/-- A tile of values, transposed: one column per key from `n` on. -/
structure Vtile (v : ℕ → ℕ → EReal) (b n : ℕ) (x : Vec Ideal S128x256 .bf16) : Prop where
  eq : ∀ (i : Fin 128) (j : Fin 256), x (ix2 i j) = v (n + j) (b + i)

/-- Rows of which the first is all ones. -/
structure Ones (x : Vec Ideal S16x256 .bf16) : Prop where
  eq : ∀ j : Fin 256, x (ix2 0 j) = (1 : EReal)

theorem vtile_pay {x : Vec Ideal S256x128 .bf16} (h : Ld v b n x) (hc : S256x128.ShapeCasts S256x128) (hlt hlt' : FTy.bits .bf16 < FTy.bits .f32)
    (ht : S256x128.Transposes [1, 0] S128x256) (hc' : S128x256.ShapeCasts S128x256) :
    Vtile v b n (shapeCast S128x256 (truncf (F := Ideal) .bf16 (transpose S128x256 [1, 0] (extf .f32 (shapeCast S256x128 x hc : FVec Ideal S256x128 .bf16) hlt) ht) hlt') hc') := by
  refine ⟨fun i j => ?_⟩
  pointwise
  exact h.eq j i

theorem ones_pay : Ones (k0_pay4 (F := Ideal)) := by
  refine ⟨fun j => ?_⟩
  unfold k0_pay4
  pointwise

/-- The stores leave the values of the first `n` keys, transposed, and a row of ones under them. -/
structure Vals (v : ℕ → ℕ → EReal) (b n : ℕ) (L : List (View.Piece (Elt Ideal) S144x2048 .bf16)) : Prop where
  eq : ∀ (i : Fin 144) (j : Fin 2048), j.val < n → i.val < 128 → View.canon L (ix2 i j) = v j (b + i)
  one : ∀ (i : Fin 144) (j : Fin 2048), j.val < n → i.val = 128 → View.canon L (ix2 i j) = (1 : EReal)

theorem vals_nil {L : List (View.Piece (Elt Ideal) S144x2048 .bf16)} : Vals v b 0 L :=
  ⟨fun _ _ h => absurd h (Nat.not_lt_zero _), fun _ _ h => absurd h (Nat.not_lt_zero _)⟩

section
variable {o : ℕ} {w : Vec Ideal S128x256 .bf16} {u : Vec Ideal S16x256 .bf16} {L : List (View.Piece (Elt Ideal) S144x2048 .bf16)}
    {inb : ∀ x, (![0, o] : Fin 2 → ℕ) x + S128x256.size x ≤ S144x2048.size x} {inb' : ∀ x, (![128, o] : Fin 2 → ℕ) x + S16x256.size x ≤ S144x2048.size x}

theorem vals_skip (ho : n ≤ o) (hL : Vals v b n L) :
    Vals v b n (⟨Rect.unit (s := S144x2048) ![128, o] S16x256.size inb', u⟩ :: ⟨Rect.unit (s := S144x2048) ![0, o] S128x256.size inb, w⟩ :: L) :=
  have e (i : Fin 144) (j : Fin 2048) (hj : j.val < n) :
      View.canon (⟨Rect.unit (s := S144x2048) ![128, o] S16x256.size inb', u⟩ :: ⟨Rect.unit (s := S144x2048) ![0, o] S128x256.size inb, w⟩ :: L) (ix2 i j) = View.canon L (ix2 i j) :=
    (canon_miss 128 o inb' u _ i j (.inr (.inl (by omega)))).trans (canon_miss 0 o inb w L i j (.inr (.inl (by omega))))
  ⟨fun i j hj hi => (e i j hj).trans (hL.eq i j hj hi), fun i j hj hi => (e i j hj).trans (hL.one i j hj hi)⟩

theorem vals_cons (hw : Vtile v b o w) (hu : Ones u) (hL : Vals v b o L) :
    Vals v b (o + 256) (⟨Rect.unit (s := S144x2048) ![128, o] S16x256.size inb', u⟩ :: ⟨Rect.unit (s := S144x2048) ![0, o] S128x256.size inb, w⟩ :: L) := by
  have hs := vals_skip (inb := inb) (inb' := inb') (w := w) (u := u) (Nat.le_refl o) hL
  refine ⟨fun i j hj hi => ?_, fun i j hj hi => ?_⟩
  · by_cases h : j.val < o
    · exact hs.eq i j h hi
    · refine (canon_miss 128 o inb' u _ i j (.inl (.inl hi))).trans ((canon_hit 0 o inb w L ⟨i.val, hi⟩ ⟨j.val - o, by omega⟩ i j (by show i.val = 0 + i.val; omega) (by show j.val = o + (j.val - o); omega)).trans ((hw.eq _ _).trans ?_))
      exact congrArg (fun t => v t (b + i)) (by show o + (j.val - o) = j.val; omega)
  · by_cases h : j.val < o
    · exact hs.one i j h hi
    · exact (canon_hit 128 o inb' u _ 0 ⟨j.val - o, by omega⟩ i j (by show i.val = 128 + 0; omega) (by show j.val = o + (j.val - o); omega)).trans (hu.eq _)

end

/-- The values of the first `l` keys, transposed, and a row of ones under them. -/
structure Vt (v : ℕ → ℕ → EReal) (b l : ℕ) (x : Vec Ideal ⟨2, ![144, l]⟩ .bf16) : Prop where
  eq : ∀ (i : Fin 144) (j : Fin l), i.val < 128 → x (ix2 i j) = v j (b + i)
  one : ∀ (i : Fin 144) (j : Fin l), i.val = 128 → x (ix2 i j) = (1 : EReal)

theorem vals_read {l : ℕ} {V : View sg κ sp S144x2048 .bf16} {L : List (View.Piece (Elt Ideal) S144x2048 .bf16)}
    {inb : ∀ x, (![0, 0] : Fin 2 → ℕ) x + (⟨2, ![144, l]⟩ : Shape).size x ≤ S144x2048.size x} (h : Vals v b l L) :
    Vt v b l (V.readCov L (Rect.unit (s := S144x2048) ![0, 0] (⟨2, ![144, l]⟩ : Shape).size inb).toLoadRect) := by
  have hl : 0 + l ≤ 2048 := inb 1
  have e (i : Fin 144) (j : Fin l) : V.readCov L (Rect.unit (s := S144x2048) ![0, 0] (⟨2, ![144, l]⟩ : Shape).size inb).toLoadRect (ix2 i j : (⟨2, ![144, l]⟩ : Shape).Idx)
      = View.canon L (ix2 i ⟨j.val, by have := j.isLt; omega⟩) := by
    rw [View.readCov_eq_canon']
    refine congrArg (View.canon L) (funext fun (x : Fin 2) => Fin.ext ?_)
    match x with
    | 0 => show 0 + 1 * i.val = i.val
           omega
    | 1 => show 0 + 1 * j.val = j.val
           omega
  exact ⟨fun i j hi => (e i j).trans (h.eq _ _ j.isLt hi), fun i j hi => (e i j).trans (h.one _ _ j.isLt hi)⟩

end

/-- The values weighted and summed, and the sum of the weights under them, one column per query from `r` on. -/
structure Acc (q k v : ℕ → ℕ → EReal) (b r : ℕ) (x : Vec Ideal S144x256 .f32) : Prop where
  eq : ∀ (i : Fin 144) (j : Fin 256), i.val < 128 → x (ix2 i j) = ∑ t ∈ Finset.range 2048, v t (b + i) * weight q k (2 * b) (r + j) t
  one : ∀ (i : Fin 144) (j : Fin 256), i.val = 128 → x (ix2 i j) = ∑ t ∈ Finset.range 2048, weight q k (2 * b) (r + j) t

/-- The keys after the query weigh nothing. -/
theorem weight_zero {t : ℕ} (h : r < t) : weight q k a r t = 0 := by
  rw [weight, score, if_neg (by omega), sub_eq_add_neg, EReal.bot_add]
  rfl

theorem sum_keys (f : ℕ → EReal) (l : ℕ) (hl : l ≤ 2048) (h0 : ∀ t, l ≤ t → f t = 0) : ∑ t : Fin l, f t = ∑ t ∈ Finset.range 2048, f t := by
  rw [Fin.sum_univ_eq_sum_range f l]
  exact Finset.sum_subset (Finset.range_mono hl) fun t _ h => h0 t (by simpa using h)

theorem acc_of {l : ℕ} {x : Vec Ideal ⟨2, ![144, l]⟩ .bf16} {p : Vec Ideal ⟨2, ![l, 256]⟩ .bf16} {y : Vec Ideal S144x256 .f32}
    (hy : ∀ (i : Fin 144) (j : Fin 256), y (ix2 i j) = ∑ t : Fin l, (x (ix2 i t) * p (ix2 t j) : EReal)) (hl : r + 256 = l) (hl' : l ≤ 2048)
    (hx : Vt v b l x) (hp : Wt q k (2 * b) r 0 p) : Acc q k v b r y := by
  have h0 (j : Fin 256) (t : ℕ) (ht : l ≤ t) : weight q k (2 * b) (r + j) t = 0 := weight_zero (by omega)
  refine ⟨fun i j hi => (hy i j).trans ?_, fun i j hi => (hy i j).trans ?_⟩
  · refine Eq.trans (Finset.sum_congr rfl fun t _ => ?_) (sum_keys (fun t => v t (b + i) * weight q k (2 * b) (r + j) t) l hl' fun t ht => ?_)
    · exact congrArg₂ (fun x y : EReal => x * y) (hx.eq i t hi) ((hp.eq t j).trans (by rw [Nat.zero_add]))
    · show _ * weight q k (2 * b) (r + j) t = 0
      rw [h0 j t ht, mul_zero]
  · refine Eq.trans (Finset.sum_congr rfl fun t _ => ?_) (sum_keys (fun t => weight q k (2 * b) (r + j) t) l hl' fun t ht => h0 j t ht)
    rw [hx.one i t hi, one_mul]
    exact (hp.eq t j).trans (by rw [Nat.zero_add])

theorem acc_256 {x : Vec Ideal S144x256 .bf16} {p : Vec Ideal S256x256 .bf16} (hx : Vt v b 256 x) (hp : Wt q k (2 * b) 0 0 (l := 256) p) :
    Acc q k v b 0 (matmul (F := Ideal) (φ₁ := .bf16) (φ₂ := .bf16) dot_S144x256_S256x256_S144x256_1_0_0_1_n_n none x p (constant S144x256 .f32 0x00000000#32)) :=
  acc_of (fun i j => by pointwise) rfl (by decide) hx hp

theorem acc_512 {x : Vec Ideal S144x512 .bf16} {p : Vec Ideal S512x256 .bf16} (hx : Vt v b 512 x) (hp : Wt q k (2 * b) 256 0 (l := 512) p) :
    Acc q k v b 256 (matmul (F := Ideal) (φ₁ := .bf16) (φ₂ := .bf16) dot_S144x512_S512x256_S144x256_1_0_0_1_n_n none x p (constant S144x256 .f32 0x00000000#32)) :=
  acc_of (fun i j => by pointwise) rfl (by decide) hx hp

theorem acc_768 {x : Vec Ideal S144x768 .bf16} {p : Vec Ideal S768x256 .bf16} (hx : Vt v b 768 x) (hp : Wt q k (2 * b) 512 0 (l := 768) p) :
    Acc q k v b 512 (matmul (F := Ideal) (φ₁ := .bf16) (φ₂ := .bf16) dot_S144x768_S768x256_S144x256_1_0_0_1_n_n none x p (constant S144x256 .f32 0x00000000#32)) :=
  acc_of (fun i j => by pointwise) rfl (by decide) hx hp

theorem acc_1024 {x : Vec Ideal S144x1024 .bf16} {p : Vec Ideal S1024x256 .bf16} (hx : Vt v b 1024 x) (hp : Wt q k (2 * b) 768 0 (l := 1024) p) :
    Acc q k v b 768 (matmul (F := Ideal) (φ₁ := .bf16) (φ₂ := .bf16) dot_S144x1024_S1024x256_S144x256_1_0_0_1_n_n none x p (constant S144x256 .f32 0x00000000#32)) :=
  acc_of (fun i j => by pointwise) rfl (by decide) hx hp

theorem acc_1280 {x : Vec Ideal S144x1280 .bf16} {p : Vec Ideal S1280x256 .bf16} (hx : Vt v b 1280 x) (hp : Wt q k (2 * b) 1024 0 (l := 1280) p) :
    Acc q k v b 1024 (matmul (F := Ideal) (φ₁ := .bf16) (φ₂ := .bf16) dot_S144x1280_S1280x256_S144x256_1_0_0_1_n_n none x p (constant S144x256 .f32 0x00000000#32)) :=
  acc_of (fun i j => by pointwise) rfl (by decide) hx hp

theorem acc_1536 {x : Vec Ideal S144x1536 .bf16} {p : Vec Ideal S1536x256 .bf16} (hx : Vt v b 1536 x) (hp : Wt q k (2 * b) 1280 0 (l := 1536) p) :
    Acc q k v b 1280 (matmul (F := Ideal) (φ₁ := .bf16) (φ₂ := .bf16) dot_S144x1536_S1536x256_S144x256_1_0_0_1_n_n none x p (constant S144x256 .f32 0x00000000#32)) :=
  acc_of (fun i j => by pointwise) rfl (by decide) hx hp

theorem acc_1792 {x : Vec Ideal S144x1792 .bf16} {p : Vec Ideal S1792x256 .bf16} (hx : Vt v b 1792 x) (hp : Wt q k (2 * b) 1536 0 (l := 1792) p) :
    Acc q k v b 1536 (matmul (F := Ideal) (φ₁ := .bf16) (φ₂ := .bf16) dot_S144x1792_S1792x256_S144x256_1_0_0_1_n_n none x p (constant S144x256 .f32 0x00000000#32)) :=
  acc_of (fun i j => by pointwise) rfl (by decide) hx hp

theorem acc_2048 {x : Vec Ideal S144x2048 .bf16} {p : Vec Ideal S2048x256 .bf16} (hx : Vt v b 2048 x) (hp : Wt q k (2 * b) 1792 0 (l := 2048) p) :
    Acc q k v b 1792 (matmul (F := Ideal) (φ₁ := .bf16) (φ₂ := .bf16) dot_S144x2048_S2048x256_S144x256_1_0_0_1_n_n none x p (constant S144x256 .f32 0x00000000#32)) :=
  acc_of (fun i j => by pointwise) rfl (by decide) hx hp

/-- What is left of the queries from `r` on, in the head whose value columns start at `b`. -/
structure Out (q k v z : ℕ → ℕ → EReal) (b r : ℕ) (x : Vec Ideal S1x256x128 .bf16) : Prop where
  eq : ∀ (i : Fin 256) (j : Fin 128), x (ix3 0 i j) = gated q k v z b (r + i) (b + j)

theorem out_pay {x : Vec Ideal S144x256 .f32} {g : Vec Ideal S256x128 .bf16} (hx : Acc q k v b r x) (hg : Ld z b r g)
    (hs : S144x256.Slices ![0, 0] S128x256) (hs' : S144x256.Slices ![128, 0] S1x256) (hb : S1x256.Broadcasts S128x256)
    (ht : S128x256.Transposes [1, 0] S256x128) (hc : S256x128.ShapeCasts S256x128) (hlt hlt' : FTy.bits .bf16 < FTy.bits .f32) (hc' : S256x128.ShapeCasts S1x256x128) :
    Out q k v z b r (shapeCast S1x256x128 (truncf (F := Ideal) .bf16 (mulf (transpose S256x128 [1, 0] (divf (extractStridedSlice S128x256 ![0, 0] x hs)
      (broadcastTo S128x256 (extractStridedSlice S1x256 ![128, 0] x hs') hb)) ht)
      (divf (extf .f32 (shapeCast S256x128 g hc : FVec Ideal S256x128 .bf16) hlt) (addf (broadcast S256x128 (Scalar.ofBits .f32 0x3F800000#32))
        (exp (subf (broadcast S256x128 (Scalar.ofBits .f32 0x00000000#32)) (extf .f32 (shapeCast S256x128 g hc : FVec Ideal S256x128 .bf16) hlt)))))) hlt') hc') := by
  refine ⟨fun i j => ?_⟩
  pointwise
  rw [hx.eq _ i j.isLt, hx.one _ i rfl, hg.eq]
  rfl

end

/-- Every piece of a list of stores into the output block agrees with the block `G`. -/
structure Pieces (G : Vec Ideal S1x2048x512 .bf16) (L : List (View.Piece (Elt Ideal) S1x2048x512 .bf16)) : Prop where
  eq : ∀ p ∈ L, ∀ z : p.1.shape.Idx, p.2 z = G (p.1.emb z)

/-- The output block of four heads, over the four windows. -/
def block (x0 x1 : Vec Ideal S1x2048x1024 .bf16) (x2 x3 : Vec Ideal S1x2048x512 .bf16) : Vec Ideal S1x2048x512 .bf16 := fun y =>
  gated (cell x0) (cell x1) (cell x2) (cell x3) (128 * ((y 2).val / 128)) (y 1).val (y 2).val

theorem pieces_nil {G : Vec Ideal S1x2048x512 .bf16} : Pieces G [] := ⟨fun _ h => absurd h List.not_mem_nil⟩

theorem pieces_cons {x0 x1 : Vec Ideal S1x2048x1024 .bf16} {x2 x3 : Vec Ideal S1x2048x512 .bf16} {b r : ℕ} {w : Vec Ideal S1x256x128 .bf16}
    {L : List (View.Piece (Elt Ideal) S1x2048x512 .bf16)} {inb : ∀ x, (![0, r, b] : Fin 3 → ℕ) x + S1x256x128.size x ≤ S1x2048x512.size x}
    (hb : 128 * (b / 128) = b) (hL : Pieces (block x0 x1 x2 x3) L) (h : Out (cell x0) (cell x1) (cell x2) (cell x3) b r w) :
    Pieces (block x0 x1 x2 x3) (⟨Rect.unit (s := S1x2048x512) ![0, r, b] S1x256x128.size inb, w⟩ :: L) := by
  refine ⟨fun p hp => ?_⟩
  rcases List.mem_cons.mp hp with rfl | hp
  · intro (z : S1x256x128.Idx)
    have h0 : (z 0).val < 1 := (z 0).isLt
    have h2 : (z 2).val < 128 := (z 2).isLt
    have ez : z = ix3 0 (z 1) (z 2) := by
      refine funext fun (x : Fin 3) => ?_
      match x with
      | 0 => exact Fin.ext (by show (z 0).val = 0; omega)
      | 1 => rfl
      | 2 => rfl
    have e1 : ((Rect.unit (s := S1x2048x512) ![0, r, b] S1x256x128.size inb).emb z 1 : Fin _).val = r + (z 1).val := by
      show r + 1 * (z 1).val = _
      omega
    have e2 : ((Rect.unit (s := S1x2048x512) ![0, r, b] S1x256x128.size inb).emb z 2 : Fin _).val = b + (z 2).val := by
      show b + 1 * (z 2).val = _
      omega
    show w z = gated _ _ _ _ (128 * (((Rect.unit (s := S1x2048x512) ![0, r, b] S1x256x128.size inb).emb z 2 : Fin _).val / 128)) ((Rect.unit (s := S1x2048x512) ![0, r, b] S1x256x128.size inb).emb z 1 : Fin _).val ((Rect.unit (s := S1x2048x512) ![0, r, b] S1x256x128.size inb).emb z 2 : Fin _).val
    rw [e1, e2, show 128 * ((b + (z 2).val) / 128) = b from by omega]
    exact (congrArg w ez).trans (h.eq _ _)
  · exact hL.eq p hp

/-- A head's result depends on the entries it reads alone. -/
theorem gated_congr {q k v z q' k' v' z' : ℕ → ℕ → EReal} {b b' r c c' : ℕ} (hr : r < 2048)
    (hq : ∀ t < 2048, ∀ d < 256, q t (2 * b + d) = q' t (2 * b' + d)) (hk : ∀ t < 2048, ∀ d < 256, k t (2 * b + d) = k' t (2 * b' + d))
    (hv : ∀ t < 2048, v t c = v' t c') (hz : z r c = z' r c') : gated q k v z b r c = gated q' k' v' z' b' r c' := by
  have hs : ∀ t < 2048, score q k (2 * b) r t = score q' k' (2 * b') r t := fun t ht => by
    unfold score
    split
    · exact Finset.sum_congr rfl fun d _ => congrArg₂ (fun x y : EReal => x * y) (hk t ht d d.isLt) (hq r hr d d.isLt)
    · rfl
  have ht : top q k (2 * b) r = top q' k' (2 * b') r := Finset.sup_congr rfl fun t h => hs t (Finset.mem_range.mp h)
  have hw : ∀ t ∈ Finset.range 2048, weight q k (2 * b) r t = weight q' k' (2 * b') r t := fun t h => by
    unfold weight
    rw [hs t (Finset.mem_range.mp h), ht]
  unfold gated
  rw [hz, Finset.sum_congr rfl hw, Finset.sum_congr rfl fun t h => congrArg₂ (fun x y : EReal => x * y) (hv t (Finset.mem_range.mp h)) (hw t h)]

/-- The entry of an argument at a batch's row and a column, from a first column on. -/
def rows {w : ℕ} (x : Vec Ideal ⟨2, ![8192, w]⟩ .bf16) (o b r c : ℕ) : EReal :=
  if h : b * 2048 + r < 8192 ∧ o + c < w then x (ix2 ⟨b * 2048 + r, h.1⟩ ⟨o + c, h.2⟩) else 0

/-- The result over the arguments: every batch's heads, gated. -/
def result (q k : Vec Ideal S8192x2048 .bf16) (v : Vec Ideal S8192x1024 .bf16) (u : Vec Ideal S8192x13312 .bf16) : Vec Ideal S4x2048x1024 .bf16 := fun i =>
  gated (rows q 0 (i 0).val) (rows k 0 (i 0).val) (rows v 0 (i 0).val) (rows u 10240 (i 0).val) (128 * ((i 2).val / 128)) (i 1).val (i 2).val

end Cert.Attn
-- ==== Proof.Attn.Walk.lean ====
/- The stores of one grid point, followed from the loads to the output block. -/
module

public import proofs.«01_k».proof.Proof.Attn.Cells

@[expose] public section

set_option maxRecDepth 65536
set_option maxHeartbeats 0

noncomputable section

namespace Cert.Attn

open Idealize.ShloMosaic Idealize.ShloMosaic.TcCoe Idealize.SL.Sem Cert.AttentionIdeal Cert.AttentionIdeal.Gen

attribute [local irreducible] addf subf maximumf shapeCast multiReduction exp2 truncf extf transpose broadcastTo broadcast select divf mulf extractStridedSlice View.readCov View.readAt

section
variable (c : Dev nD) (i : grid0.Coords) (arg2 : Memref sig .tc .vmem S1x2048x1024 .bf16) (harg2 : arg2.IsWhole) (arg3 : Memref sig .tc .vmem S1x2048x1024 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S256x256 .f32) (harg7 : arg7.IsWhole) (arg8 : Memref sig .tc .vmem S144x2048 .bf16) (harg8 : arg8.IsWhole) (arg9 : Memref sig .tc .vmem S2048x256 .f32) (harg9 : arg9.IsWhole) (arg10 : Memref sig .tc .vmem S2048x256 .f32) (harg10 : arg10.IsWhole) (arg11 : Memref sig .tc .vmem S2048x256 .bf16) (harg11 : arg11.IsWhole) (arg12 : Memref sig .tc .vmem S144x2048 .bf16) (harg12 : arg12.IsWhole) (arg13 : Memref sig .tc .vmem S2048x256 .f32) (harg13 : arg13.IsWhole) (arg14 : Memref sig .tc .vmem S2048x256 .f32) (harg14 : arg14.IsWhole) (arg15 : Memref sig .tc .vmem S2048x256 .bf16) (harg15 : arg15.IsWhole) (arg16 : Memref sig .tc .vmem S144x2048 .bf16) (harg16 : arg16.IsWhole) (arg17 : Memref sig .tc .vmem S2048x256 .f32) (harg17 : arg17.IsWhole) (arg18 : Memref sig .tc .vmem S2048x256 .f32) (harg18 : arg18.IsWhole) (arg19 : Memref sig .tc .vmem S2048x256 .bf16) (harg19 : arg19.IsWhole) (arg20 : Memref sig .tc .vmem S144x2048 .bf16) (harg20 : arg20.IsWhole) (arg21 : Memref sig .tc .vmem S2048x256 .f32) (harg21 : arg21.IsWhole) (arg22 : Memref sig .tc .vmem S2048x256 .f32) (harg22 : arg22.IsWhole) (arg23 : Memref sig .tc .vmem S2048x256 .bf16) (harg23 : arg23.IsWhole)
    (x0 : Vec Ideal S1x2048x1024 .bf16) (x1 : Vec Ideal S1x2048x1024 .bf16) (x2 : Vec Ideal S1x2048x512 .bf16) (x3 : Vec Ideal S1x2048x512 .bf16)

theorem pieces : Pieces (block x0 x1 x2 x3) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3).1 := by
  unfold kernelRun0_A
  repeat' first
    | exact mask_pay | exact ones_pay | exact wts_nil | exact vals_nil
    | apply out_pay | apply acc_256 | apply acc_512 | apply acc_768 | apply acc_1024 | apply acc_1280 | apply acc_1536 | apply acc_1792 | apply acc_2048
    | apply vals_read | apply vals_cons | apply vals_skip (by decide) | apply vtile_pay
    | apply wts_read | apply wts_cons | apply wt_cast | apply wt_pay (by decide)
    | apply best_step | apply best_first
    | apply tile_hit | apply tile_skip (by decide) | apply tile_cast | apply tile_diag | refine tile_off ?_ ?_ (by decide)
    | apply mask_hit | apply ld_cast | apply ld_load
    | exact pieces_nil | apply pieces_cons (by decide)

/-- The block that a grid point leaves. -/
theorem out_eq : out0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 = block x0 x1 x2 x3 :=
  funext fun y => View.read_writes_apply_of_pieces _ _ (block x0 x1 x2 x3) _
    (pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3).eq y
    (cover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 y)

end

end Cert.Attn
-- ==== Proof.Attn.Blocks.lean ====
/- What the latent attention leaves: every grid point writes the gated heads of its batch and its half of the columns. -/
module

public import proofs.«01_k».proof.Proof.Attn.Walk

@[expose] public section

set_option maxRecDepth 16384

noncomputable section

namespace Cert.Attn

open Idealize.ShloMosaic Idealize.ShloMosaic.TcCoe Idealize.SL.Sem Cert.AttentionIdeal Cert.AttentionIdeal.Gen

variable (m : (ℓ : Loc nD τ sig) → Buf (Elt Ideal) ℓ) (c : Dev nD)

theorem maps : ∀ t : Fin grid0.N, cc0_transform_0 (grid0.coords t) = ![t.val / 2, 0, t.val % 2] ∧ cc0_transform_1 (grid0.coords t) = ![t.val / 2, 0, t.val % 2]
    ∧ cc0_transform_2 (grid0.coords t) = ![t.val / 2, 0, t.val % 2] ∧ cc0_transform_3 (grid0.coords t) = ![t.val / 2, 0, 20 + t.val % 2]
    ∧ cc0_transform_4 (grid0.coords t) = ![t.val / 2, 0, t.val % 2] := by decide +kernel

theorem lt_N (t : Fin grid0.N) : t.val < 8 := Nat.lt_of_lt_of_eq t.isLt N_0

theorem row_lt (b : Fin 4) (r : Fin 2048) : b.val * 2048 + r.val < 8192 := by
  have := b.isLt
  have := r.isLt
  omega

theorem entry_q (i : S4x2048x2048.Idx) : (V m c main_v0 : Vec Ideal S4x2048x2048 .bf16) i
    = (m ((c.tc : Thread nD τ).loc main_arg0) : Vec Ideal S8192x2048 .bf16) (ix2 ⟨(i 0).val * 2048 + (i 1).val, row_lt (i 0) (i 1)⟩ (i 2)) := by
  entry_read
  pointwise

theorem entry_k (i : S4x2048x2048.Idx) : (V m c main_v1 : Vec Ideal S4x2048x2048 .bf16) i
    = (m ((c.tc : Thread nD τ).loc main_arg1) : Vec Ideal S8192x2048 .bf16) (ix2 ⟨(i 0).val * 2048 + (i 1).val, row_lt (i 0) (i 1)⟩ (i 2)) := by
  entry_read
  pointwise

theorem entry_v (i : S4x2048x1024.Idx) : (V m c main_v2 : Vec Ideal S4x2048x1024 .bf16) i
    = (m ((c.tc : Thread nD τ).loc main_arg2) : Vec Ideal S8192x1024 .bf16) (ix2 ⟨(i 0).val * 2048 + (i 1).val, row_lt (i 0) (i 1)⟩ (i 2)) := by
  entry_read
  pointwise

theorem entry_z (i : S4x2048x13312.Idx) : (V m c main_v3 : Vec Ideal S4x2048x13312 .bf16) i
    = (m ((c.tc : Thread nD τ).loc main_arg3) : Vec Ideal S8192x13312 .bf16) (ix2 ⟨(i 0).val * 2048 + (i 1).val, row_lt (i 0) (i 1)⟩ (i 2)) := by
  entry_read
  pointwise

/-- The queries that point `t` sees. -/
theorem cell_q (t : Fin grid0.N) (r e : ℕ) (hr : r < 2048) (he : e < 1024) :
    cell (iblk m c 0 t : Vec Ideal S1x2048x1024 .bf16) r e = rows (m ((c.tc : Thread nD τ).loc main_arg0) : Vec Ideal S8192x2048 .bf16) 0 (t.val / 2) r (1024 * (t.val % 2) + e) := by
  have ht := lt_N t
  have h2 : 0 + (1024 * (t.val % 2) + e) < 2048 := by omega
  have h1 : (t.val / 2) * 2048 + r < 8192 := by omega
  refine (dif_pos ⟨hr, he⟩).trans (Eq.trans ?_ (dif_pos ⟨h1, h2⟩).symm)
  refine Eq.trans (congrArg (V m c main_v0 : Vec Ideal S4x2048x2048 .bf16)
    (?_ : _ = (ix3 ⟨t.val / 2, by omega⟩ ⟨r, hr⟩ ⟨0 + (1024 * (t.val % 2) + e), h2⟩ : S4x2048x2048.Idx))) (entry_q m c _)
  refine funext fun (a : Fin 3) => Fin.ext ?_
  match a with
  | 0 => show cc0_transform_0 (grid0.coords t) 0 * 1 + 1 * 0 = t.val / 2
         rw [(maps t).1]
         show t.val / 2 * 1 + 1 * 0 = _
         omega
  | 1 => show cc0_transform_0 (grid0.coords t) 1 * 2048 + 1 * r = r
         rw [(maps t).1]
         show 0 * 2048 + 1 * r = _
         omega
  | 2 => show cc0_transform_0 (grid0.coords t) 2 * 1024 + 1 * e = 0 + (1024 * (t.val % 2) + e)
         rw [(maps t).1]
         show t.val % 2 * 1024 + 1 * e = _
         omega

/-- The keys that point `t` sees. -/
theorem cell_k (t : Fin grid0.N) (r e : ℕ) (hr : r < 2048) (he : e < 1024) :
    cell (iblk m c 1 t : Vec Ideal S1x2048x1024 .bf16) r e = rows (m ((c.tc : Thread nD τ).loc main_arg1) : Vec Ideal S8192x2048 .bf16) 0 (t.val / 2) r (1024 * (t.val % 2) + e) := by
  have ht := lt_N t
  have h2 : 0 + (1024 * (t.val % 2) + e) < 2048 := by omega
  have h1 : (t.val / 2) * 2048 + r < 8192 := by omega
  refine (dif_pos ⟨hr, he⟩).trans (Eq.trans ?_ (dif_pos ⟨h1, h2⟩).symm)
  refine Eq.trans (congrArg (V m c main_v1 : Vec Ideal S4x2048x2048 .bf16)
    (?_ : _ = (ix3 ⟨t.val / 2, by omega⟩ ⟨r, hr⟩ ⟨0 + (1024 * (t.val % 2) + e), h2⟩ : S4x2048x2048.Idx))) (entry_k m c _)
  refine funext fun (a : Fin 3) => Fin.ext ?_
  match a with
  | 0 => show cc0_transform_1 (grid0.coords t) 0 * 1 + 1 * 0 = t.val / 2
         rw [(maps t).2.1]
         show t.val / 2 * 1 + 1 * 0 = _
         omega
  | 1 => show cc0_transform_1 (grid0.coords t) 1 * 2048 + 1 * r = r
         rw [(maps t).2.1]
         show 0 * 2048 + 1 * r = _
         omega
  | 2 => show cc0_transform_1 (grid0.coords t) 2 * 1024 + 1 * e = 0 + (1024 * (t.val % 2) + e)
         rw [(maps t).2.1]
         show t.val % 2 * 1024 + 1 * e = _
         omega

/-- The values that point `t` sees. -/
theorem cell_v (t : Fin grid0.N) (r e : ℕ) (hr : r < 2048) (he : e < 512) :
    cell (iblk m c 2 t : Vec Ideal S1x2048x512 .bf16) r e = rows (m ((c.tc : Thread nD τ).loc main_arg2) : Vec Ideal S8192x1024 .bf16) 0 (t.val / 2) r (512 * (t.val % 2) + e) := by
  have ht := lt_N t
  have h2 : 0 + (512 * (t.val % 2) + e) < 1024 := by omega
  have h1 : (t.val / 2) * 2048 + r < 8192 := by omega
  refine (dif_pos ⟨hr, he⟩).trans (Eq.trans ?_ (dif_pos ⟨h1, h2⟩).symm)
  refine Eq.trans (congrArg (V m c main_v2 : Vec Ideal S4x2048x1024 .bf16)
    (?_ : _ = (ix3 ⟨t.val / 2, by omega⟩ ⟨r, hr⟩ ⟨0 + (512 * (t.val % 2) + e), h2⟩ : S4x2048x1024.Idx))) (entry_v m c _)
  refine funext fun (a : Fin 3) => Fin.ext ?_
  match a with
  | 0 => show cc0_transform_2 (grid0.coords t) 0 * 1 + 1 * 0 = t.val / 2
         rw [(maps t).2.2.1]
         show t.val / 2 * 1 + 1 * 0 = _
         omega
  | 1 => show cc0_transform_2 (grid0.coords t) 1 * 2048 + 1 * r = r
         rw [(maps t).2.2.1]
         show 0 * 2048 + 1 * r = _
         omega
  | 2 => show cc0_transform_2 (grid0.coords t) 2 * 512 + 1 * e = 0 + (512 * (t.val % 2) + e)
         rw [(maps t).2.2.1]
         show t.val % 2 * 512 + 1 * e = _
         omega

/-- The gate columns that point `t` sees. -/
theorem cell_z (t : Fin grid0.N) (r e : ℕ) (hr : r < 2048) (he : e < 512) :
    cell (iblk m c 3 t : Vec Ideal S1x2048x512 .bf16) r e = rows (m ((c.tc : Thread nD τ).loc main_arg3) : Vec Ideal S8192x13312 .bf16) 10240 (t.val / 2) r (512 * (t.val % 2) + e) := by
  have ht := lt_N t
  have h2 : 10240 + (512 * (t.val % 2) + e) < 13312 := by omega
  have h1 : (t.val / 2) * 2048 + r < 8192 := by omega
  refine (dif_pos ⟨hr, he⟩).trans (Eq.trans ?_ (dif_pos ⟨h1, h2⟩).symm)
  refine Eq.trans (congrArg (V m c main_v3 : Vec Ideal S4x2048x13312 .bf16)
    (?_ : _ = (ix3 ⟨t.val / 2, by omega⟩ ⟨r, hr⟩ ⟨10240 + (512 * (t.val % 2) + e), h2⟩ : S4x2048x13312.Idx))) (entry_z m c _)
  refine funext fun (a : Fin 3) => Fin.ext ?_
  match a with
  | 0 => show cc0_transform_3 (grid0.coords t) 0 * 1 + 1 * 0 = t.val / 2
         rw [(maps t).2.2.2.1]
         show t.val / 2 * 1 + 1 * 0 = _
         omega
  | 1 => show cc0_transform_3 (grid0.coords t) 1 * 2048 + 1 * r = r
         rw [(maps t).2.2.2.1]
         show 0 * 2048 + 1 * r = _
         omega
  | 2 => show cc0_transform_3 (grid0.coords t) 2 * 512 + 1 * e = 10240 + (512 * (t.val % 2) + e)
         rw [(maps t).2.2.2.1]
         show (20 + t.val % 2) * 512 + 1 * e = _
         omega

/-- The result over the arguments as launched. -/
def final : Vec Ideal S4x2048x1024 .bf16 := result (m ((c.tc : Thread nD τ).loc main_arg0)) (m ((c.tc : Thread nD τ).loc main_arg1)) (m ((c.tc : Thread nD τ).loc main_arg2)) (m ((c.tc : Thread nD τ).loc main_arg3))

theorem block_out (t : Fin grid0.N) (y : S1x2048x512.Idx) (i : S4x2048x1024.Idx) (h0 : (i 0).val = t.val / 2) (h1 : (i 1).val = (y 1).val)
    (h2 : (i 2).val = 512 * (t.val % 2) + (y 2).val) : (dats m 0 c).after 4 t y = final m c i := by
  have hr : (y 1).val < 2048 := (y 1).isLt
  have he : (y 2).val < 512 := (y 2).isLt
  have hb : 128 * ((i 2).val / 128) = 512 * (t.val % 2) + 128 * ((y 2).val / 128) := by omega
  rw [after0_4]
  refine (congrFun (out_eq ..) y).trans ?_
  unfold final result
  rw [h0, h1, hb]
  refine gated_congr hr (fun r hr' d hd => ?_) (fun r hr' d hd => ?_) (fun r hr' => ?_) ?_
  · refine (cell_q m c t r _ hr' (by omega)).trans (congrArg _ ?_)
    omega
  · refine (cell_k m c t r _ hr' (by omega)).trans (congrArg _ ?_)
    omega
  · rw [h2]
    exact cell_v m c t r _ hr' he
  · rw [h2]
    exact cell_z m c t _ _ hr he

/-- The block of the result that point `t` writes, at an index. -/
theorem emb_out (t : Fin cfg0.N) (y : S1x2048x512.Idx) (a : Fin 3) :
    (((cfg0.win 4).blk t).view.emb y a : Fin _).val = ![t.val / 2, (y 1).val, 512 * (t.val % 2) + (y 2).val] a := by
  have hy : (y 0).val < 1 := (y 0).isLt
  match a with
  | 0 => show cc0_transform_4 (grid0.coords t) 0 * 1 + 1 * (y 0).val = t.val / 2
         rw [(maps t).2.2.2.2]
         show t.val / 2 * 1 + 1 * (y 0).val = _
         omega
  | 1 => show cc0_transform_4 (grid0.coords t) 1 * 2048 + 1 * (y 1).val = (y 1).val
         rw [(maps t).2.2.2.2]
         show 0 * 2048 + 1 * (y 1).val = _
         omega
  | 2 => show cc0_transform_4 (grid0.coords t) 2 * 512 + 1 * (y 2).val = 512 * (t.val % 2) + (y 2).val
         rw [(maps t).2.2.2.2]
         show t.val % 2 * 512 + 1 * (y 2).val = _
         omega

theorem arr : (dats m 0 c).arrAt 4 cfg0.N = final m c := by
  refine (dats m 0 c).arrAt_eq_of_emb 4 _ (fun t _ y => block_out m c t y _ (emb_out t y 0) (emb_out t y 1) (emb_out t y 2)) fun (i : S4x2048x1024.Idx) => ?_
  have h0 : (i 0).val < 4 := (i 0).isLt
  have h1 : (i 1).val < 2048 := (i 1).isLt
  have h2 : (i 2).val < 1024 := (i 2).isLt
  let t : Fin cfg0.N := ⟨2 * (i 0).val + (i 2).val / 512, by
    show _ < grid0.N
    rw [N_0]; omega⟩
  refine ⟨t, flush0_4 t, ?_⟩
  have e : ((cfg0.win 4).blk t).view.emb (ix3 0 ⟨(i 1).val, h1⟩ ⟨(i 2).val % 512, by omega⟩ : S1x2048x512.Idx) = i := by
    refine funext fun (a : Fin 3) => Fin.ext ((emb_out t _ a).trans ?_)
    match a with
    | 0 => show (2 * (i 0).val + (i 2).val / 512) / 2 = (i 0).val
           omega
    | 1 => rfl
    | 2 => show 512 * ((2 * (i 0).val + (i 2).val / 512) % 2) + (i 2).val % 512 = (i 2).val
           omega
  exact (congrArg (fun j => j ∈ ((cfg0.win 4).blk t).view.set) e).mp (View.emb_mem_set _ _)

end Cert.Attn
-- ==== Proof.Attn.Reference.lean ====
/- The reference of the latent attention, entry by entry. -/
module

public import proofs.«01_k».proof.Proof.Attn.Cells
public import proofs.«01_k».proof.Proof.Gen.AttentionReferenceIdeal.Run

@[expose] public section

set_option maxRecDepth 16384

noncomputable section

namespace Cert.Attn

open Idealize.ShloMosaic Idealize.ShloMosaic.TcCoe Idealize.SL.Sem Cert.AttentionReferenceIdeal Cert.AttentionReferenceIdeal.Facts₀

/-- The masked scores. -/
def logits (q k : FVec Ideal S8192x2048 .bf16) : FVec Ideal S4x8x2048x2048 .f32 :=
  select (broadcastInDim S4x8x2048x2048 ![2, 3] bcast_S2048x2048_S4x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
    (Host.dotGeneral dot_S4x2048x8x256_S4x2048x8x256_S4x8x2048x2048_3_3_1_1_02_02 none (shapeCast _ q shapeCasts_S8192x2048_S4x2048x8x256) (shapeCast _ k shapeCasts_S8192x2048_S4x2048x8x256))
    (broadcastInDim S4x8x2048x2048 ![] bcast_S_S4x8x2048x2048 (id (constant S_ .f32 0xFF800000#32)))

/-- The greatest scores. -/
def tops (l : FVec Ideal S4x8x2048x2048 .f32) : FVec Ideal S4x8x2048 .f32 :=
  Host.reduce FloatOps.maximumf l (constant S_ .f32 0xFF800000#32) reducesTo_S4x8x2048x2048_S4x8x2048_d3 h_S_

/-- The weights. -/
def powers (l : FVec Ideal S4x8x2048x2048 .f32) : FVec Ideal S4x8x2048x2048 .f32 :=
  Host.powf (broadcastInDim S4x8x2048x2048 ![] bcast_S_S4x8x2048x2048 (constant S_ .f32 0x40000000#32))
    (subf l (broadcastInDim S4x8x2048x2048 ![0, 1, 2, 3] bcast_S4x8x2048x1_S4x8x2048x2048_0_1_2_3 (broadcastInDim S4x8x2048x1 ![0, 1, 2] bcast_S4x8x2048_S4x8x2048x1_0_1_2 (tops l))))

/-- The weighted values over the weights' sum. -/
def heads (p : FVec Ideal S4x8x2048x2048 .f32) (v : FVec Ideal S8192x1024 .bf16) : FVec Ideal S4x2048x8x128 .f32 :=
  Host.divf (transpose S4x2048x8x128 [0, 3, 1, 2] (Host.dotGeneral dot_S4x2048x8x128_S4x8x2048x2048_S4x8x128x2048_1_3_3_2_02_01 none (extf .f32 (shapeCast _ v shapeCasts_S8192x1024_S4x2048x8x128) bitsLt_bf16_f32) p) transposes_S4x8x128x2048_S4x2048x8x128_0_3_1_2)
    (broadcastInDim S4x2048x8x128 ![0, 1, 2, 3] bcast_S4x2048x8x1_S4x2048x8x128_0_1_2_3 (broadcastInDim S4x2048x8x1 ![0, 1, 2] bcast_S4x2048x8_S4x2048x8x1_0_1_2 (transpose S4x2048x8 [0, 2, 1]
      (Host.reduceAdd p (constant S_ .f32 0x00000000#32) reducesTo_S4x8x2048x2048_S4x8x2048_d3 h_S_) transposes_S4x8x2048_S4x2048x8_0_2_1)))

/-- The gate's columns of the input. -/
def gates (u : FVec Ideal S8192x13312 .bf16) : FVec Ideal S4x2048x1024 .f32 :=
  shapeCast _ (extf .f32 (extractStridedSlice S8192x1024 ![0, 10240] u slices_S8192x13312_S8192x1024_0_10240) bitsLt_bf16_f32) shapeCasts_S8192x1024_S4x2048x1024

/-- The reference's term. -/
def term (q k : FVec Ideal S8192x2048 .bf16) (v : FVec Ideal S8192x1024 .bf16) (u : FVec Ideal S8192x13312 .bf16) : FVec Ideal S4x2048x1024 .bf16 :=
  truncf .bf16 (mulf (shapeCast _ (heads (powers (logits q k)) v) shapeCasts_S4x2048x8x128_S4x2048x1024)
    (mulf (gates u) (Host.divf (broadcastInDim S4x2048x1024 ![] bcast_S_S4x2048x1024 (constant S_ .f32 0x3F800000#32))
      (addf (broadcastInDim S4x2048x1024 ![] bcast_S_S4x2048x1024 (constant S_ .f32 0x3F800000#32)) (Host.exp (Host.negf (gates u))))))) bitsLt_bf16_f32

theorem rows_eq {w : ℕ} (x : Vec Ideal ⟨2, ![8192, w]⟩ .bf16) (o b r c : ℕ) (i : Fin 8192) (j : Fin w) (hi : i.val = b * 2048 + r) (hj : j.val = o + c) :
    rows x o b r c = x (ix2 i j) := by
  unfold rows
  rw [dif_pos ⟨hi ▸ i.isLt, hj ▸ j.isLt⟩]
  exact congrArg x (congrArg₂ ix2 (Fin.ext hi.symm) (Fin.ext hj.symm))

theorem ofBits_two : Ideal.ofBits .f32 0x40000000#32 = ((2 : ℝ) : EReal) := by
  simp [Ideal.ofBits, Ideal.ieee]
  rw [← EReal.coe_mul]
  norm_num

/-- A power of two is the exponential over base 2. -/
theorem pow_two_eq (x : EReal) : Ideal.pow ((2 : ℝ) : EReal) x = Ideal.exp2 x := by
  induction x with
  | bot => exact (if_neg (by norm_num)).trans (if_pos (by norm_num))
  | top => exact (if_neg (by norm_num)).trans (if_pos (by norm_num))
  | coe x => rfl

/-- The gate as a product is the gate as a quotient. -/
theorem silu_eq (z : EReal) : z * Ideal.div 1 (1 + Ideal.exp (-z)) = silu z := by
  have h : (1 : EReal) + Ideal.exp (-z) ≠ 0 := by
    have h0 : (0 : EReal) ≤ Ideal.exp (-z) := by
      generalize -z = x
      induction x with
      | bot => exact le_refl _
      | top => exact le_top
      | coe x => exact EReal.coe_nonneg.mpr (Real.exp_nonneg x)
    exact (lt_of_lt_of_le zero_lt_one (le_add_of_nonneg_right h0)).ne'
  unfold silu Ideal.div
  rw [zero_sub, if_neg h, if_neg h, one_mul]

section
variable (q k : FVec Ideal S8192x2048 .bf16) (v : FVec Ideal S8192x1024 .bf16) (u : FVec Ideal S8192x13312 .bf16)

theorem logits_apply (b : Fin 4) (h : Fin 8) (r t : Fin 2048) :
    logits q k (ix4 b h r t) = score (rows q 0 b.val) (rows k 0 b.val) (h.val * 256) r t := by
  have ht := t.isLt
  have hr := r.isLt
  have hb := b.isLt
  have hh := h.isLt
  have e : logits q k (ix4 b h r t) = Scalar.select (IntOp.cmpi .sle (BitVec.ofNat 32 t.val) (BitVec.ofNat 32 r.val))
      (∑ d : Fin 256, q (ix2 ⟨b.val * 2048 + r.val, by omega⟩ ⟨h.val * 256 + d.val, by omega⟩) * k (ix2 ⟨b.val * 2048 + t.val, by omega⟩ ⟨h.val * 256 + d.val, by omega⟩))
      (Ideal.ofBits .f32 0xFF800000#32) := by
    unfold logits
    pointwise
    rfl
  rw [e, ofBits_bot, WordCmp.cmpi_sle_ofNat (by omega) (by omega)]
  unfold score
  by_cases hle : t.val ≤ r.val
  · simp only [hle, Scalar.select, if_true]
    refine Finset.sum_congr rfl fun d _ => ?_
    have hd := d.isLt
    rw [mul_comm]
    refine congrArg₂ (fun x y : EReal => x * y) ?_ ?_
    · exact (rows_eq k 0 b.val t.val _ ⟨b.val * 2048 + t.val, by omega⟩ ⟨h.val * 256 + d.val, by omega⟩ rfl (by simp)).symm
    · exact (rows_eq q 0 b.val r.val _ ⟨b.val * 2048 + r.val, by omega⟩ ⟨h.val * 256 + d.val, by omega⟩ rfl (by simp)).symm
  · simp [hle, Scalar.select]

theorem tops_apply (l : FVec Ideal S4x8x2048x2048 .f32) (b : Fin 4) (h : Fin 8) (r : Fin 2048) (f : ℕ → EReal) (hf : ∀ t : Fin 2048, l (ix4 b h r t) = f t) :
    tops l (ix3 b h r) = (Finset.range 2048).sup f := by
  have e : tops l (ix3 b h r) = Finset.univ.fold max (Ideal.ofBits .f32 0xFF800000#32) fun t : Fin 2048 => l (ix4 b h r t) := by
    unfold tops
    pointwise
  rw [e, ofBits_bot]
  refine le_antisymm ((Finset.fold_max_le _).mpr ⟨bot_le, fun t _ => ?_⟩) (Finset.sup_le fun t ht => ?_)
  · exact (hf t).trans_le (Finset.le_sup (f := f) (Finset.mem_range.mpr t.isLt))
  · exact (Finset.le_fold_max _).mpr (Or.inr ⟨⟨t, Finset.mem_range.mp ht⟩, Finset.mem_univ _, (hf ⟨t, Finset.mem_range.mp ht⟩).ge⟩)

theorem powers_apply (b : Fin 4) (h : Fin 8) (r t : Fin 2048) :
    powers (logits q k) (ix4 b h r t) = weight (rows q 0 b.val) (rows k 0 b.val) (h.val * 256) r t := by
  have e : powers (logits q k) (ix4 b h r t) = Ideal.pow (Ideal.ofBits .f32 0x40000000#32) (logits q k (ix4 b h r t) - tops (logits q k) (ix3 b h r)) := by
    unfold powers
    pointwise
  rw [e, ofBits_two, pow_two_eq, logits_apply, tops_apply _ _ _ _ (score (rows q 0 b.val) (rows k 0 b.val) (h.val * 256) r) fun t => logits_apply q k b h r t]
  rfl

theorem heads_apply (p : FVec Ideal S4x8x2048x2048 .f32) (b : Fin 4) (r : Fin 2048) (h : Fin 8) (e : Fin 128) :
    heads p v (ix4 b r h e) = Ideal.div (∑ t : Fin 2048, v (ix2 ⟨b.val * 2048 + t.val, by omega⟩ ⟨h.val * 128 + e.val, by omega⟩) * p (ix4 b h r t)) (∑ t : Fin 2048, p (ix4 b h r t)) := by
  unfold heads
  pointwise

theorem gates_apply (b : Fin 4) (r : Fin 2048) (j : Fin 1024) : gates u (ix3 b r j) = u (ix2 ⟨b.val * 2048 + r.val, by omega⟩ ⟨10240 + j.val, by omega⟩) := by
  unfold gates
  pointwise

theorem term_eq : term q k v u = result q k v u := by
  funext i
  have h0 : (i 0).val < 4 := (i 0).isLt
  have h1 : (i 1).val < 2048 := (i 1).isLt
  have h2 : (i 2).val < 1024 := (i 2).isLt
  have e : term q k v u i = heads (powers (logits q k)) v (ix4 (i 0) (i 1) ⟨(i 2).val / 128, by omega⟩ ⟨(i 2).val % 128, by omega⟩)
      * (gates u i * Ideal.div 1 (1 + Ideal.exp (-gates u i))) := by
    unfold term
    pointwise
  have hg : gates u i = rows u 10240 (i 0).val (i 1).val (i 2).val :=
    (gates_apply u (i 0) (i 1) (i 2)).trans (rows_eq u _ _ _ _ _ _ rfl rfl).symm
  refine (e.trans (congrArg₂ (fun x y : EReal => x * y) (heads_apply v _ (i 0) (i 1) _ _) ((silu_eq _).trans (congrArg silu hg)))).trans ?_
  unfold result gated
  have hw (t : Fin 2048) : powers (logits q k) (ix4 (i 0) ⟨(i 2).val / 128, by omega⟩ (i 1) t)
      = weight (rows q 0 (i 0).val) (rows k 0 (i 0).val) (2 * (128 * ((i 2).val / 128))) (i 1).val t :=
    (powers_apply q k (i 0) ⟨(i 2).val / 128, by omega⟩ (i 1) t).trans (congrArg (fun a => weight _ _ a _ _) (by
      show (i 2).val / 128 * 256 = 2 * (128 * ((i 2).val / 128))
      omega))
  refine congrArg (fun x : EReal => x * silu _) (congrArg₂ Ideal.div ?_ ?_)
  · refine (Finset.sum_congr rfl fun t _ => ?_).trans (Fin.sum_univ_eq_sum_range (fun t => rows v 0 (i 0).val t (i 2).val * weight (rows q 0 (i 0).val) (rows k 0 (i 0).val) (2 * (128 * ((i 2).val / 128))) (i 1).val t) 2048)
    refine congrArg₂ (fun x y : EReal => x * y) (rows_eq v _ _ _ _ _ _ rfl ?_).symm (hw t)
    show (i 2).val / 128 * 128 + (i 2).val % 128 = 0 + (i 2).val
    omega
  · exact (Finset.sum_congr rfl fun t _ => hw t).trans (Fin.sum_univ_eq_sum_range (weight (rows q 0 (i 0).val) (rows k 0 (i 0).val) (2 * (128 * ((i 2).val / 128))) (i 1).val) 2048)

end

/-- The run of the reference, its result as the result's. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (term_eq _ _ _ _), (h c).2⟩) (Value.run m ρ)

end Cert.Attn
-- ==== Proof.lean ====
/- The proof of the claim: the runs of the input projection, of the latent projections, of the memory projection, of the
   latent attention and of the merge, their idealizations, and their equality with the references. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Latents
public import proofs.«01_k».proof.Proof.Gen.Latents.Frame
public import proofs.«01_k».proof.Proof.Gen.LatentsIdeal
public import proofs.«01_k».proof.Proof.Gen.LatentsIdeal.Frame
public import proofs.«01_k».proof.Proof.Gen.LatentsIdeal.Value
public import proofs.«01_k».proof.Proof.Gen.LatentsReferenceIdeal
public import proofs.«01_k».proof.Proof.Gen.LatentsReferenceIdeal.Run
public import proofs.«01_k».proof.Proof.Gen.Memory
public import proofs.«01_k».proof.Proof.Gen.Memory.Frame
public import proofs.«01_k».proof.Proof.Gen.MemoryIdeal
public import proofs.«01_k».proof.Proof.Gen.MemoryIdeal.Frame
public import proofs.«01_k».proof.Proof.Gen.MemoryIdeal.Value
public import proofs.«01_k».proof.Proof.Gen.MemoryReferenceIdeal
public import proofs.«01_k».proof.Proof.Gen.MemoryReferenceIdeal.Run
public import proofs.«01_k».proof.Proof.Gen.Attention
public import proofs.«01_k».proof.Proof.Gen.Attention.Frame
public import proofs.«01_k».proof.Proof.Gen.AttentionIdeal
public import proofs.«01_k».proof.Proof.Gen.AttentionIdeal.Frame
public import proofs.«01_k».proof.Proof.Gen.AttentionIdeal.Value
public import proofs.«01_k».proof.Proof.Gen.AttentionReferenceIdeal
public import proofs.«01_k».proof.Proof.Gen.AttentionReferenceIdeal.Run
public import proofs.«01_k».proof.Proof.InProj.Ok
public import proofs.«01_k».proof.Proof.InProj.Bits
public import proofs.«01_k».proof.Proof.InProj.Reference
public import proofs.«01_k».proof.Proof.Merge.Reference
public import proofs.«01_k».proof.Proof.Latents.Reference
public import proofs.«01_k».proof.Proof.Memory.Reference
public import proofs.«01_k».proof.Proof.Attn.Blocks
public import proofs.«01_k».proof.Proof.Attn.Reference
public import Idealize.ShloMosaic.Adequacy
public import Idealize.ShloMosaic.Init

@[expose] public section

noncomputable section

namespace Cert.Proof

open Idealize.ShloMosaic Idealize.SL.Sem Cert.Kernel

/-- A program that declares no semaphore ends with its counters at zero. -/
theorem sems_zero {nD : ℕ} {τ : Topo} {sig : RefSig} (hr : Sem sig → False) (hd : DmaSem sig → False) (r : PUnit × MemSt nD τ sig (Elt Ideal)) : r.2.sem = fun _ => 0 := by
  funext s
  rcases s with ⟨_, s | s⟩
  · exact (hr s).elim
  · exact (hd s).elim

theorem claim : Cert.Claim := by
  refine ⟨Cert.Kernel.Gen.facts, Cert.KernelIdeal.Gen.facts, Cert.ReferenceIdeal.Gen.facts, Cert.Merge.Gen.facts, Cert.MergeIdeal.Gen.facts, Cert.MergeReferenceIdeal.Gen.facts,
    Cert.Latents.Gen.facts, Cert.LatentsIdeal.Gen.facts, Cert.LatentsReferenceIdeal.Gen.facts, Cert.Memory.Gen.facts, Cert.MemoryIdeal.Gen.facts, Cert.MemoryReferenceIdeal.Gen.facts,
    Cert.Attention.Gen.facts, Cert.AttentionIdeal.Gen.facts, Cert.AttentionReferenceIdeal.Gen.facts,
    ?_, ?_, ?_, ?_, ?_, ?_, ?_, ?_, ?_, ?_, ?_, ?_, ?_, ?_, ?_, trivial, ?_, trivial, ?_, trivial, ?_, trivial, ?_, trivial, ?_⟩
  · exact Cert.InProj.frame_kernel
  · exact fun m g _ => Cert.KernelIdeal.InProj.frame m g (Cert.KernelIdeal.InProj.ok m)
  · exact fun m g _ => θ_run_mono (Cert.InProj.run_reference m g) fun r h => ⟨fun c => (h c).2, sems_zero Fin.elim0 Fin.elim0 r⟩
  · exact fun m g _ => Cert.Merge.Gen.frame m g
  · exact fun m g _ => Cert.MergeIdeal.Gen.frame m g
  · exact fun m g _ => θ_run_mono (Cert.MergeReferenceIdeal.Value.run m g) fun r h => ⟨fun c => (h c).2, sems_zero Fin.elim0 Fin.elim0 r⟩
  · exact fun m g _ => Cert.Latents.Gen.frame m g
  · exact fun m g _ => Cert.LatentsIdeal.Gen.frame m g
  · exact fun m g _ => θ_run_mono (Cert.LatentsReferenceIdeal.Value.run m g) fun r h => ⟨fun c => (h c).2.2.2, sems_zero Fin.elim0 Fin.elim0 r⟩
  · exact fun m g _ => Cert.Memory.Gen.frame m g
  · exact fun m g _ => Cert.MemoryIdeal.Gen.frame m g
  · exact fun m g _ => θ_run_mono (Cert.MemoryReferenceIdeal.Value.run m g) fun r h => ⟨fun c => (h c).2, sems_zero Fin.elim0 Fin.elim0 r⟩
  · exact fun m g _ => Cert.Attention.Gen.frame m g
  · exact fun m g _ => Cert.AttentionIdeal.Gen.frame m g
  · exact fun m g _ => θ_run_mono (Cert.AttentionReferenceIdeal.Value.run m g) fun r h => ⟨fun c => (h c).2, sems_zero Fin.elim0 Fin.elim0 r⟩
  · intro m g m' g' _ hagree
    refine ⟨fun c => Cert.InProj.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
      Cert.InProj.run m g, ?_⟩
    refine θ_run_mono (Cert.InProj.run_reference m' g') fun r h c => ⟨(h c).1.trans ?_, (h c).2⟩
    obtain ⟨h0, h1, h2⟩ := hagree c
    exact congr (congr (congrArg Cert.InProj.result h0) h1) h2
  · intro m g m' g' _ hagree
    refine ⟨fun c => Cert.Merge.final m c, θ_run_mono (Cert.MergeIdeal.Value.run_blocks m g) fun r h c => ⟨(h c).1.trans (Cert.Merge.arr m c), (h c).2⟩, ?_⟩
    refine θ_run_mono (Cert.MergeReferenceIdeal.Value.run m' g') fun r h c => ⟨(h c).1.trans ((Cert.Merge.reference m' c).trans ?_), (h c).2⟩
    obtain ⟨h0, h1, h2, h3, h4, h5, h6, h7, h8, h9⟩ := hagree c
    exact congr (congr (congr (congr (congr (congr (congr (congr (congr (congrArg Cert.Merge.result h0) h1) h2) h3) h4) h5) h6) h7) h8) h9
  · intro m g m' g' _ hagree
    refine ⟨fun c => Cert.Latents.finalQ m c, fun c => Cert.Latents.finalK m c, fun c => Cert.Latents.finalV m c,
      θ_run_mono (Cert.LatentsIdeal.Value.run_blocks m g) fun r h c => ⟨(h c).1.trans (Cert.Latents.arr_q m c), (h c).2.1.trans (Cert.Latents.arr_k m c), (h c).2.2.1.trans (Cert.Latents.arr_v m c), (h c).2.2.2⟩, ?_⟩
    refine θ_run_mono (Cert.Latents.run_reference m' g') fun r h c => ?_
    obtain ⟨h0, h1, h2, h3, h4⟩ := hagree c
    exact ⟨(h c).1.trans (congr (congr (congrArg Cert.Latents.resultQ h0) h1) h2), (h c).2.1.trans (congr (congr (congrArg Cert.Latents.resultK h0) h3) h4),
      (h c).2.2.1.trans (congr (congr (congrArg Cert.Latents.resultV h0) h3) h4), (h c).2.2.2⟩
  · intro m g m' g' _ hagree
    refine ⟨fun c => Cert.Memory.final m c, θ_run_mono (Cert.MemoryIdeal.Value.run_blocks m g) fun r h c => ⟨(h c).1.trans (Cert.Memory.arr m c), (h c).2⟩, ?_⟩
    refine θ_run_mono (Cert.Memory.run_reference m' g') fun r h c => ⟨(h c).1.trans ?_, (h c).2⟩
    obtain ⟨h0, h1, h2⟩ := hagree c
    exact congr (congr (congrArg Cert.Memory.result h0) h1) h2
  · intro m g m' g' _ hagree
    refine ⟨fun c => Cert.Attn.final m c, θ_run_mono (Cert.AttentionIdeal.Value.run_blocks m g) fun r h c => ⟨(h c).1.trans (Cert.Attn.arr m c), (h c).2⟩, ?_⟩
    refine θ_run_mono (Cert.Attn.run_reference m' g') fun r h c => ⟨(h c).1.trans ?_, (h c).2⟩
    obtain ⟨h0, h1, h2, h3⟩ := hagree c
    exact congr (congr (congr (congrArg Cert.Attn.result h0) h1) h2) h3

end Cert.Proof

end
